-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S512x64x768 : Shape := ⟨3, ![512, 64, 768]⟩
abbrev S2304x768 : Shape := ⟨2, ![2304, 768]⟩
abbrev S2304 : Shape := ⟨1, ![2304]⟩
abbrev S64 : Shape := ⟨1, ![64]⟩
abbrev S768x768 : Shape := ⟨2, ![768, 768]⟩
abbrev S768 : Shape := ⟨1, ![768]⟩
abbrev S768x2304 : Shape := ⟨2, ![768, 2304]⟩
abbrev S512x64x2304 : Shape := ⟨3, ![512, 64, 2304]⟩
abbrev S1x1x2304 : Shape := ⟨3, ![1, 1, 2304]⟩
abbrev S512x64x3x12x64 : Shape := ⟨5, ![512, 64, 3, 12, 64]⟩
abbrev S3x512x12x64x64 : Shape := ⟨5, ![3, 512, 12, 64, 64]⟩
abbrev S1x512x12x64x64 : Shape := ⟨5, ![1, 512, 12, 64, 64]⟩
abbrev S512x12x64x64 : Shape := ⟨4, ![512, 12, 64, 64]⟩
abbrev S_ : Shape := ⟨0, ![]⟩
abbrev S512x12x64 : Shape := ⟨3, ![512, 12, 64]⟩
abbrev S512x12x64x1 : Shape := ⟨4, ![512, 12, 64, 1]⟩
abbrev S1x1x1x64 : Shape := ⟨4, ![1, 1, 1, 64]⟩
abbrev S512x12x64x20 : Shape := ⟨4, ![512, 12, 64, 20]⟩
abbrev S512x12x64x18 : Shape := ⟨4, ![512, 12, 64, 18]⟩

class Facts : Prop where
  transposes_S2304x768_S768x2304_1_0 : S2304x768.Transposes [1, 0] S768x2304
  bcast_S2304_S1x1x2304_2 : S2304.BroadcastsInDim S1x1x2304 (![2] : Fin 1 → Fin S1x1x2304.rank)
  bcast_S1x1x2304_S512x64x2304_0_1_2 : S1x1x2304.BroadcastsInDim S512x64x2304 (![0, 1, 2] : Fin 3 → Fin S512x64x2304.rank)
  shapeCasts_S512x64x2304_S512x64x3x12x64 : S512x64x2304.ShapeCasts S512x64x3x12x64
  transposes_S512x64x3x12x64_S3x512x12x64x64_2_0_3_1_4 : S512x64x3x12x64.Transposes [2, 0, 3, 1, 4] S3x512x12x64x64
  slices_S3x512x12x64x64_S1x512x12x64x64_0_0_0_0_0 : S3x512x12x64x64.Slices ![0, 0, 0, 0, 0] S1x512x12x64x64
  shapeCasts_S1x512x12x64x64_S512x12x64x64 : S1x512x12x64x64.ShapeCasts S512x12x64x64
  slices_S3x512x12x64x64_S1x512x12x64x64_1_0_0_0_0 : S3x512x12x64x64.Slices ![1, 0, 0, 0, 0] S1x512x12x64x64
  reducesTo_S512x12x64x64_S512x12x64_d3 : S512x12x64x64.ReducesTo [3] S512x12x64
  h_S_ : 0 < S_.numel
  bcast_S512x12x64_S512x12x64x1_0_1_2 : S512x12x64.BroadcastsInDim S512x12x64x1 (![0, 1, 2] : Fin 3 → Fin S512x12x64x1.rank)
  bcast_S_S512x12x64x1 : S_.BroadcastsInDim S512x12x64x1 (![] : Fin 0 → Fin S512x12x64x1.rank)
  bcast_S512x12x64x1_S512x12x64x64_0_1_2_3 : S512x12x64x1.BroadcastsInDim S512x12x64x64 (![0, 1, 2, 3] : Fin 4 → Fin S512x12x64x64.rank)
  bcast_S64_S1x1x1x64_3 : S64.BroadcastsInDim S1x1x1x64 (![3] : Fin 1 → Fin S1x1x1x64.rank)
  bcast_S1x1x1x64_S512x12x64x64_0_1_2_3 : S1x1x1x64.BroadcastsInDim S512x12x64x64 (![0, 1, 2, 3] : Fin 4 → Fin S512x12x64x64.rank)
  transposes_S512x12x64x64_S512x12x64x64_0_1_3_2 : S512x12x64x64.Transposes [0, 1, 3, 2] S512x12x64x64
  bcast_S_S512x12x64x64 : S_.BroadcastsInDim S512x12x64x64 (![] : Fin 0 → Fin S512x12x64x64.rank)
  sliceFits_S512x12x64x64_S512x12x64x20 : S512x12x64x64.Slices (fun _ => 0) S512x12x64x20
  slices_S512x12x64x20_S512x12x64x1_0_0_0_0 : S512x12x64x20.Slices ![0, 0, 0, 0] S512x12x64x1
  shapeCasts_S512x12x64x1_S512x12x64 : S512x12x64x1.ShapeCasts S512x12x64
  bcast_S_S512x12x64 : S_.BroadcastsInDim S512x12x64 (![] : Fin 0 → Fin S512x12x64.rank)
  slices_S512x12x64x20_S512x12x64x18_0_0_0_0 : S512x12x64x20.Slices ![0, 0, 0, 0] S512x12x64x18
  slices_S512x12x64x20_S512x12x64x18_0_0_0_1 : S512x12x64x20.Slices ![0, 0, 0, 1] S512x12x64x18
  reducesTo_S512x12x64x18_S512x12x64_d3 : S512x12x64x18.ReducesTo [3] S512x12x64
  slices_S512x12x64x20_S512x12x64x1_0_0_0_18 : S512x12x64x20.Slices ![0, 0, 0, 18] S512x12x64x1
  slices_S512x12x64x20_S512x12x64x1_0_0_0_19 : S512x12x64x20.Slices ![0, 0, 0, 19] S512x12x64x1
  dot_S512x64x768_S768x2304_S512x64x2304_2_0_01_1_n_n_wf : DotDims.WF S512x64x768 S768x2304 S512x64x2304 [2] [0] [0, 1] [1] [] []
  dot_S512x12x64x64_S512x12x64x64_S512x12x64x64_3_2_2_3_01_01_wf : DotDims.WF S512x12x64x64 S512x12x64x64 S512x12x64x64 [3] [2] [2] [3] [0, 1] [0, 1]

variable [Facts]

def dot_S512x64x768_S768x2304_S512x64x2304_2_0_01_1_n_n : DotDims S512x64x768 S768x2304 S512x64x2304 where
  lhsContracting := [2]
  rhsContracting := [0]
  lhsNonContracting := [0, 1]
  rhsNonContracting := [1]
  lhsBatch := []
  rhsBatch := []
  wf := dot_S512x64x768_S768x2304_S512x64x2304_2_0_01_1_n_n_wf
def dot_S512x12x64x64_S512x12x64x64_S512x12x64x64_3_2_2_3_01_01 : DotDims S512x12x64x64 S512x12x64x64 S512x12x64x64 where
  lhsContracting := [3]
  rhsContracting := [2]
  lhsNonContracting := [2]
  rhsNonContracting := [3]
  lhsBatch := [0, 1]
  rhsBatch := [0, 1]
  wf := dot_S512x12x64x64_S512x12x64x64_S512x12x64x64_3_2_2_3_01_01_wf
def fn_part3 {F : FTy → Type} [FloatOps F] (main_v60 : FVec F S512x12x64x64 .f32) (main_cst_9 : FVec F S_ .f32) : IVec S512x12x64 1 :=
  let main_v61 : FVec F S512x12x64x64 .f32 := broadcastInDim S512x12x64x64 ![] bcast_S_S512x12x64x64 main_cst_9
  let main_v62 : FVec F S512x12x64x64 .f32 := mulf main_v60 main_v61
  let main_values : FVec F S512x12x64x20 .f32 := (fun x => (Host.topK S512x12x64x20 3 (FloatOps.cmpfTotal .gt) x sliceFits_S512x12x64x64_S512x12x64x20).1) main_v62
  let main_indices : IVec S512x12x64x20 32 := (fun x => (Host.topK S512x12x64x20 3 (FloatOps.cmpfTotal .gt) x sliceFits_S512x12x64x64_S512x12x64x20).2) main_v62
  let main_v63 : FVec F S512x12x64x1 .f32 := (extractStridedSlice S512x12x64x1 ![0, 0, 0, 0] · slices_S512x12x64x20_S512x12x64x1_0_0_0_0) main_values
  let main_v64 : FVec F S512x12x64 .f32 := shapeCast S512x12x64 main_v63 shapeCasts_S512x12x64x1_S512x12x64
  let main_cst_10 : FVec F S_ .f32 := constant S_ .f32 0x7F800000#32
  let main_v65 : FVec F S512x12x64 .f32 := broadcastInDim S512x12x64 ![] bcast_S_S512x12x64 main_cst_10
  let main_v66 : IVec S512x12x64 1 := cmpf .olt main_v64 main_v65
  let main_v67 : FVec F S512x12x64x18 .f32 := (extractStridedSlice S512x12x64x18 ![0, 0, 0, 0] · slices_S512x12x64x20_S512x12x64x18_0_0_0_0) main_values
  let main_v68 : FVec F S512x12x64x18 .f32 := (extractStridedSlice S512x12x64x18 ![0, 0, 0, 1] · slices_S512x12x64x20_S512x12x64x18_0_0_0_1) main_values
  let main_v69 : IVec S512x12x64x18 1 := cmpf .ogt main_v67 main_v68
  let main_c : IVec S_ 1 := constantI S_ 1 1#1
  let main_v70 : IVec S512x12x64 1 := (fun x v => Host.reduce IntOp.andi x v reducesTo_S512x12x64x18_S512x12x64_d3 h_S_) main_v69 main_c
  let main_v71 : FVec F S512x12x64x1 .f32 := (extractStridedSlice S512x12x64x1 ![0, 0, 0, 18] · slices_S512x12x64x20_S512x12x64x1_0_0_0_18) main_values
  let main_v72 : FVec F S512x12x64 .f32 := shapeCast S512x12x64 main_v71 shapeCasts_S512x12x64x1_S512x12x64
  let main_cst_11 : FVec F S_ .f32 := constant S_ .f32 0x37FBA882#32
  let main_v73 : FVec F S512x12x64 .f32 := broadcastInDim S512x12x64 ![] bcast_S_S512x12x64 main_cst_11
  let main_v74 : FVec F S512x12x64 .f32 := subf main_v72 main_v73
  let main_v75 : FVec F S512x12x64x1 .f32 := (extractStridedSlice S512x12x64x1 ![0, 0, 0, 19] · slices_S512x12x64x20_S512x12x64x1_0_0_0_19) main_values
  let main_v76 : FVec F S512x12x64 .f32 := shapeCast S512x12x64 main_v75 shapeCasts_S512x12x64x1_S512x12x64
  let main_v77 : IVec S512x12x64 1 := cmpf .ogt main_v74 main_v76
  let main_v78 : IVec S512x12x64 1 := andi main_v66 main_v70
  let main_v79 : IVec S512x12x64 1 := andi main_v78 main_v77
  main_v79

def fn_part2 {F : FTy → Type} [FloatOps F] (main_arg5 : FVec F S64 .f32) (main_arg6 : FVec F S64 .f32) (main_v10 : FVec F S512x12x64x64 .f32) (main_v34 : FVec F S512x12x64x64 .f32) (main_v38 : FVec F S512x12x64x1 .f32) (main_v40 : FVec F S512x12x64x64 .f32) : IVec S512x12x64 1 :=
  let main_v41 : FVec F S512x12x64x64 .f32 := mulf main_v40 main_v40
  let main_cst_6 : FVec F S_ .f32 := constant S_ .f32 0x00000000#32
  let main_v42 : FVec F S512x12x64 .f32 := (fun x v => Host.reduceAdd x v reducesTo_S512x12x64x64_S512x12x64_d3 h_S_) main_v41 main_cst_6
  let main_v43 : FVec F S512x12x64x1 .f32 := broadcastInDim S512x12x64x1 ![0, 1, 2] bcast_S512x12x64_S512x12x64x1_0_1_2 main_v42
  let main_cst_7 : FVec F S_ .f32 := constant S_ .f32 0x42800000#32
  let main_v44 : FVec F S512x12x64x1 .f32 := broadcastInDim S512x12x64x1 ![] bcast_S_S512x12x64x1 main_cst_7
  let main_v45 : FVec F S512x12x64x1 .f32 := Host.divf main_v43 main_v44
  let main_v46 : FVec F S512x12x64x64 .f32 := broadcastInDim S512x12x64x64 ![0, 1, 2, 3] bcast_S512x12x64x1_S512x12x64x64_0_1_2_3 main_v38
  let main_v47 : FVec F S512x12x64x64 .f32 := subf main_v10 main_v46
  let main_cst_8 : FVec F S_ .f32 := constant S_ .f32 0x3727C5AC#32
  let main_v48 : FVec F S512x12x64x1 .f32 := broadcastInDim S512x12x64x1 ![] bcast_S_S512x12x64x1 main_cst_8
  let main_v49 : FVec F S512x12x64x1 .f32 := addf main_v45 main_v48
  let main_v50 : FVec F S512x12x64x1 .f32 := Host.sqrt main_v49
  let main_v51 : FVec F S512x12x64x64 .f32 := broadcastInDim S512x12x64x64 ![0, 1, 2, 3] bcast_S512x12x64x1_S512x12x64x64_0_1_2_3 main_v50
  let main_v52 : FVec F S512x12x64x64 .f32 := Host.divf main_v47 main_v51
  let main_v53 : FVec F S1x1x1x64 .f32 := broadcastInDim S1x1x1x64 ![3] bcast_S64_S1x1x1x64_3 main_arg5
  let main_v54 : FVec F S512x12x64x64 .f32 := broadcastInDim S512x12x64x64 ![0, 1, 2, 3] bcast_S1x1x1x64_S512x12x64x64_0_1_2_3 main_v53
  let main_v55 : FVec F S512x12x64x64 .f32 := mulf main_v52 main_v54
  let main_v56 : FVec F S1x1x1x64 .f32 := broadcastInDim S1x1x1x64 ![3] bcast_S64_S1x1x1x64_3 main_arg6
  let main_v57 : FVec F S512x12x64x64 .f32 := broadcastInDim S512x12x64x64 ![0, 1, 2, 3] bcast_S1x1x1x64_S512x12x64x64_0_1_2_3 main_v56
  let main_v58 : FVec F S512x12x64x64 .f32 := addf main_v55 main_v57
  let main_v59 : FVec F S512x12x64x64 .f32 := (transpose S512x12x64x64 [0, 1, 3, 2] · transposes_S512x12x64x64_S512x12x64x64_0_1_3_2) main_v58
  let main_v60 : FVec F S512x12x64x64 .f32 := (fun l r => Host.dotGeneral dot_S512x12x64x64_S512x12x64x64_S512x12x64x64_3_2_2_3_01_01 none l r) main_v34 main_v59
  let main_cst_9 : FVec F S_ .f32 := constant S_ .f32 0x3E000000#32
  fn_part3 (F := F) main_v60 main_cst_9

def fn_part1 {F : FTy → Type} [FloatOps F] (main_arg3 : FVec F S64 .f32) (main_arg4 : FVec F S64 .f32) (main_arg5 : FVec F S64 .f32) (main_arg6 : FVec F S64 .f32) (main_v8 : FVec F S512x12x64x64 .f32) (main_v10 : FVec F S512x12x64x64 .f32) (main_v14 : FVec F S512x12x64x1 .f32) (main_v19 : FVec F S512x12x64x1 .f32) (main_cst_2 : FVec F S_ .f32) : IVec S512x12x64 1 :=
  let main_v20 : FVec F S512x12x64x1 .f32 := broadcastInDim S512x12x64x1 ![] bcast_S_S512x12x64x1 main_cst_2
  let main_v21 : FVec F S512x12x64x1 .f32 := Host.divf main_v19 main_v20
  let main_v22 : FVec F S512x12x64x64 .f32 := broadcastInDim S512x12x64x64 ![0, 1, 2, 3] bcast_S512x12x64x1_S512x12x64x64_0_1_2_3 main_v14
  let main_v23 : FVec F S512x12x64x64 .f32 := subf main_v8 main_v22
  let main_cst_3 : FVec F S_ .f32 := constant S_ .f32 0x3727C5AC#32
  let main_v24 : FVec F S512x12x64x1 .f32 := broadcastInDim S512x12x64x1 ![] bcast_S_S512x12x64x1 main_cst_3
  let main_v25 : FVec F S512x12x64x1 .f32 := addf main_v21 main_v24
  let main_v26 : FVec F S512x12x64x1 .f32 := Host.sqrt main_v25
  let main_v27 : FVec F S512x12x64x64 .f32 := broadcastInDim S512x12x64x64 ![0, 1, 2, 3] bcast_S512x12x64x1_S512x12x64x64_0_1_2_3 main_v26
  let main_v28 : FVec F S512x12x64x64 .f32 := Host.divf main_v23 main_v27
  let main_v29 : FVec F S1x1x1x64 .f32 := broadcastInDim S1x1x1x64 ![3] bcast_S64_S1x1x1x64_3 main_arg3
  let main_v30 : FVec F S512x12x64x64 .f32 := broadcastInDim S512x12x64x64 ![0, 1, 2, 3] bcast_S1x1x1x64_S512x12x64x64_0_1_2_3 main_v29
  let main_v31 : FVec F S512x12x64x64 .f32 := mulf main_v28 main_v30
  let main_v32 : FVec F S1x1x1x64 .f32 := broadcastInDim S1x1x1x64 ![3] bcast_S64_S1x1x1x64_3 main_arg4
  let main_v33 : FVec F S512x12x64x64 .f32 := broadcastInDim S512x12x64x64 ![0, 1, 2, 3] bcast_S1x1x1x64_S512x12x64x64_0_1_2_3 main_v32
  let main_v34 : FVec F S512x12x64x64 .f32 := addf main_v31 main_v33
  let main_cst_4 : FVec F S_ .f32 := constant S_ .f32 0x00000000#32
  let main_v35 : FVec F S512x12x64 .f32 := (fun x v => Host.reduceAdd x v reducesTo_S512x12x64x64_S512x12x64_d3 h_S_) main_v10 main_cst_4
  let main_v36 : FVec F S512x12x64x1 .f32 := broadcastInDim S512x12x64x1 ![0, 1, 2] bcast_S512x12x64_S512x12x64x1_0_1_2 main_v35
  let main_cst_5 : FVec F S_ .f32 := constant S_ .f32 0x42800000#32
  let main_v37 : FVec F S512x12x64x1 .f32 := broadcastInDim S512x12x64x1 ![] bcast_S_S512x12x64x1 main_cst_5
  let main_v38 : FVec F S512x12x64x1 .f32 := Host.divf main_v36 main_v37
  let main_v39 : FVec F S512x12x64x64 .f32 := broadcastInDim S512x12x64x64 ![0, 1, 2, 3] bcast_S512x12x64x1_S512x12x64x64_0_1_2_3 main_v38
  let main_v40 : FVec F S512x12x64x64 .f32 := subf main_v10 main_v39
  fn_part2 (F := F) main_arg5 main_arg6 main_v10 main_v34 main_v38 main_v40

def fn {F : FTy → Type} [FloatOps F] (main_arg0 : FVec F S512x64x768 .f32) (main_arg1 : FVec F S2304x768 .f32) (main_arg2 : FVec F S2304 .f32) (main_arg3 : FVec F S64 .f32) (main_arg4 : FVec F S64 .f32) (main_arg5 : FVec F S64 .f32) (main_arg6 : FVec F S64 .f32) (main_arg7 : FVec F S768x768 .f32) (main_arg8 : FVec F S768 .f32) : IVec S512x12x64 1 :=
  let main_v0 : FVec F S768x2304 .f32 := (transpose S768x2304 [1, 0] · transposes_S2304x768_S768x2304_1_0) main_arg1
  let main_v1 : FVec F S512x64x2304 .f32 := (fun l r => Host.dotGeneral dot_S512x64x768_S768x2304_S512x64x2304_2_0_01_1_n_n none l r) main_arg0 main_v0
  let main_v2 : FVec F S1x1x2304 .f32 := broadcastInDim S1x1x2304 ![2] bcast_S2304_S1x1x2304_2 main_arg2
  let main_v3 : FVec F S512x64x2304 .f32 := broadcastInDim S512x64x2304 ![0, 1, 2] bcast_S1x1x2304_S512x64x2304_0_1_2 main_v2
  let main_v4 : FVec F S512x64x2304 .f32 := addf main_v1 main_v3
  let main_v5 : FVec F S512x64x3x12x64 .f32 := shapeCast S512x64x3x12x64 main_v4 shapeCasts_S512x64x2304_S512x64x3x12x64
  let main_v6 : FVec F S3x512x12x64x64 .f32 := (transpose S3x512x12x64x64 [2, 0, 3, 1, 4] · transposes_S512x64x3x12x64_S3x512x12x64x64_2_0_3_1_4) main_v5
  let main_v7 : FVec F S1x512x12x64x64 .f32 := (extractStridedSlice S1x512x12x64x64 ![0, 0, 0, 0, 0] · slices_S3x512x12x64x64_S1x512x12x64x64_0_0_0_0_0) main_v6
  let main_v8 : FVec F S512x12x64x64 .f32 := shapeCast S512x12x64x64 main_v7 shapeCasts_S1x512x12x64x64_S512x12x64x64
  let main_v9 : FVec F S1x512x12x64x64 .f32 := (extractStridedSlice S1x512x12x64x64 ![1, 0, 0, 0, 0] · slices_S3x512x12x64x64_S1x512x12x64x64_1_0_0_0_0) main_v6
  let main_v10 : FVec F S512x12x64x64 .f32 := shapeCast S512x12x64x64 main_v9 shapeCasts_S1x512x12x64x64_S512x12x64x64
  let main_cst : FVec F S_ .f32 := constant S_ .f32 0x00000000#32
  let main_v11 : FVec F S512x12x64 .f32 := (fun x v => Host.reduceAdd x v reducesTo_S512x12x64x64_S512x12x64_d3 h_S_) main_v8 main_cst
  let main_v12 : FVec F S512x12x64x1 .f32 := broadcastInDim S512x12x64x1 ![0, 1, 2] bcast_S512x12x64_S512x12x64x1_0_1_2 main_v11
  let main_cst_0 : FVec F S_ .f32 := constant S_ .f32 0x42800000#32
  let main_v13 : FVec F S512x12x64x1 .f32 := broadcastInDim S512x12x64x1 ![] bcast_S_S512x12x64x1 main_cst_0
  let main_v14 : FVec F S512x12x64x1 .f32 := Host.divf main_v12 main_v13
  let main_v15 : FVec F S512x12x64x64 .f32 := broadcastInDim S512x12x64x64 ![0, 1, 2, 3] bcast_S512x12x64x1_S512x12x64x64_0_1_2_3 main_v14
  let main_v16 : FVec F S512x12x64x64 .f32 := subf main_v8 main_v15
  let main_v17 : FVec F S512x12x64x64 .f32 := mulf main_v16 main_v16
  let main_cst_1 : FVec F S_ .f32 := constant S_ .f32 0x00000000#32
  let main_v18 : FVec F S512x12x64 .f32 := (fun x v => Host.reduceAdd x v reducesTo_S512x12x64x64_S512x12x64_d3 h_S_) main_v17 main_cst_1
  let main_v19 : FVec F S512x12x64x1 .f32 := broadcastInDim S512x12x64x1 ![0, 1, 2] bcast_S512x12x64_S512x12x64x1_0_1_2 main_v18
  let main_cst_2 : FVec F S_ .f32 := constant S_ .f32 0x42800000#32
  fn_part1 (F := F) main_arg3 main_arg4 main_arg5 main_arg6 main_v8 main_v10 main_v14 main_v19 main_cst_2
-- ==== Kernel.lean ====
abbrev S512x64x768 : Shape := ⟨3, ![512, 64, 768]⟩
abbrev S2304x768 : Shape := ⟨2, ![2304, 768]⟩
abbrev S2304 : Shape := ⟨1, ![2304]⟩
abbrev S64 : Shape := ⟨1, ![64]⟩
abbrev S768x768 : Shape := ⟨2, ![768, 768]⟩
abbrev S768 : Shape := ⟨1, ![768]⟩
abbrev S768x2304 : Shape := ⟨2, ![768, 2304]⟩
abbrev S1x2304 : Shape := ⟨2, ![1, 2304]⟩
abbrev S1x768 : Shape := ⟨2, ![1, 768]⟩
abbrev S1x64 : Shape := ⟨2, ![1, 64]⟩
abbrev S16x64x768 : Shape := ⟨3, ![16, 64, 768]⟩
abbrev S1024x768 : Shape := ⟨2, ![1024, 768]⟩
abbrev S1024x2304 : Shape := ⟨2, ![1024, 2304]⟩
abbrev S1024x64 : Shape := ⟨2, ![1024, 64]⟩
abbrev S1024 : Shape := ⟨1, ![1024]⟩
abbrev S1024x1 : Shape := ⟨2, ![1024, 1]⟩
abbrev S128x64 : Shape := ⟨2, ![128, 64]⟩
abbrev S64x128 : Shape := ⟨2, ![64, 128]⟩
abbrev S128x128 : Shape := ⟨2, ![128, 128]⟩
abbrev S64x64 : Shape := ⟨2, ![64, 64]⟩
abbrev S1x64x128 : Shape := ⟨3, ![1, 64, 128]⟩
abbrev S4x64x128 : Shape := ⟨3, ![4, 64, 128]⟩
abbrev S4x128 : Shape := ⟨2, ![4, 128]⟩
abbrev S4x1x128 : Shape := ⟨3, ![4, 1, 128]⟩
abbrev S96x128 : Shape := ⟨2, ![96, 128]⟩
abbrev S128x96 : Shape := ⟨2, ![128, 96]⟩
abbrev S128x1 : Shape := ⟨2, ![128, 1]⟩
abbrev S128x65 : Shape := ⟨2, ![128, 65]⟩

abbrev nBuf : Space → Nat
  | .hbm => 21
  | .vmem => 12
  | .smem => 0
  | _ => 0

abbrev bufTy : (tb : Table) → Fin (tcTables nBuf tb) → BufTy
  | .hbm, ⟨0, _⟩ => ⟨S512x64x768, .f32⟩
  | .hbm, ⟨1, _⟩ => ⟨S2304x768, .f32⟩
  | .hbm, ⟨2, _⟩ => ⟨S2304, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S768x768, .f32⟩
  | .hbm, ⟨8, _⟩ => ⟨S768, .f32⟩
  | .hbm, ⟨9, _⟩ => ⟨S768x2304, .f32⟩
  | .hbm, ⟨10, _⟩ => ⟨S768x2304, .bf16⟩
  | .hbm, ⟨11, _⟩ => ⟨S768x768, .f32⟩
  | .hbm, ⟨12, _⟩ => ⟨S768x768, .bf16⟩
  | .hbm, ⟨13, _⟩ => ⟨S1x2304, .f32⟩
  | .hbm, ⟨14, _⟩ => ⟨S1x768, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S512x64x768, .bf16⟩
  | .hbm, ⟨20, _⟩ => ⟨S512x64x768, .f32⟩
  | .local _ .vmem, ⟨0, _⟩ => ⟨S16x64x768, .bf16⟩
  | .local _ .vmem, ⟨1, _⟩ => ⟨S16x64x768, .bf16⟩
  | .local _ .vmem, ⟨2, _⟩ => ⟨S768x2304, .bf16⟩
  | .local _ .vmem, ⟨3, _⟩ => ⟨S1x2304, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S768x768, .bf16⟩
  | .local _ .vmem, ⟨9, _⟩ => ⟨S1x768, .f32⟩
  | .local _ .vmem, ⟨10, _⟩ => ⟨S16x64x768, .f32⟩
  | .local _ .vmem, ⟨11, _⟩ => ⟨S16x64x768, .f32⟩
  | _, _ => ⟨S512x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c18_i32 : BitVec 32 := 18#32
  let v1743 : BitVec 32 := Scalar.addi c0_i32 c18_i32
  let c1_i32 : BitVec 32 := 1#32
  ⟨c0_i32, v1743, c1_i32⟩
@[reducible] def k0_t2_loop : Scf.Loop 32 :=
  let c0_i32_511 : BitVec 32 := 0#32
  let c18_i32_512 : BitVec 32 := 18#32
  let v1751 : BitVec 32 := Scalar.addi c0_i32_511 c18_i32_512
  let c1_i32_513 : BitVec 32 := 1#32
  ⟨c0_i32_511, v1751, c1_i32_513⟩
@[reducible] def k0_t3_loop : Scf.Loop 32 :=
  let c0_i32_515 : BitVec 32 := 0#32
  let c18_i32_516 : BitVec 32 := 18#32
  let v1759 : BitVec 32 := Scalar.addi c0_i32_515 c18_i32_516
  let c1_i32_517 : BitVec 32 := 1#32
  ⟨c0_i32_515, v1759, c1_i32_517⟩
@[reducible] def k0_t4_loop : Scf.Loop 32 :=
  let c0_i32_519 : BitVec 32 := 0#32
  let c18_i32_520 : BitVec 32 := 18#32
  let v1767 : BitVec 32 := Scalar.addi c0_i32_519 c18_i32_520
  let c1_i32_521 : BitVec 32 := 1#32
  ⟨c0_i32_519, v1767, c1_i32_521⟩
@[reducible] def k0_t5_loop : Scf.Loop 32 :=
  let c0_i32_523 : BitVec 32 := 0#32
  let c18_i32_524 : BitVec 32 := 18#32
  let v1775 : BitVec 32 := Scalar.addi c0_i32_523 c18_i32_524
  let c1_i32_525 : BitVec 32 := 1#32
  ⟨c0_i32_523, v1775, c1_i32_525⟩
@[reducible] def k0_t6_loop : Scf.Loop 32 :=
  let c0_i32_527 : BitVec 32 := 0#32
  let c18_i32_528 : BitVec 32 := 18#32
  let v1783 : BitVec 32 := Scalar.addi c0_i32_527 c18_i32_528
  let c1_i32_529 : BitVec 32 := 1#32
  ⟨c0_i32_527, v1783, c1_i32_529⟩
@[reducible] def k0_t7_loop : Scf.Loop 32 :=
  let c0_i32_531 : BitVec 32 := 0#32
  let c18_i32_532 : BitVec 32 := 18#32
  let v1791 : BitVec 32 := Scalar.addi c0_i32_531 c18_i32_532
  let c1_i32_533 : BitVec 32 := 1#32
  ⟨c0_i32_531, v1791, c1_i32_533⟩
@[reducible] def k0_t8_loop : Scf.Loop 32 :=
  let c0_i32_535 : BitVec 32 := 0#32
  let c18_i32_536 : BitVec 32 := 18#32
  let v1799 : BitVec 32 := Scalar.addi c0_i32_535 c18_i32_536
  let c1_i32_537 : BitVec 32 := 1#32
  ⟨c0_i32_535, v1799, c1_i32_537⟩
@[reducible] def k0_t9_loop : Scf.Loop 32 :=
  let c0_i32_539 : BitVec 32 := 0#32
  let c18_i32_540 : BitVec 32 := 18#32
  let v1807 : BitVec 32 := Scalar.addi c0_i32_539 c18_i32_540
  let c1_i32_541 : BitVec 32 := 1#32
  ⟨c0_i32_539, v1807, c1_i32_541⟩
@[reducible] def k0_t10_loop : Scf.Loop 32 :=
  let c0_i32_543 : BitVec 32 := 0#32
  let c18_i32_544 : BitVec 32 := 18#32
  let v1815 : BitVec 32 := Scalar.addi c0_i32_543 c18_i32_544
  let c1_i32_545 : BitVec 32 := 1#32
  ⟨c0_i32_543, v1815, c1_i32_545⟩
@[reducible] def k0_t11_loop : Scf.Loop 32 :=
  let c0_i32_547 : BitVec 32 := 0#32
  let c18_i32_548 : BitVec 32 := 18#32
  let v1823 : BitVec 32 := Scalar.addi c0_i32_547 c18_i32_548
  let c1_i32_549 : BitVec 32 := 1#32
  ⟨c0_i32_547, v1823, c1_i32_549⟩
@[reducible] def k0_t12_loop : Scf.Loop 32 :=
  let c0_i32_551 : BitVec 32 := 0#32
  let c18_i32_552 : BitVec 32 := 18#32
  let v1831 : BitVec 32 := Scalar.addi c0_i32_551 c18_i32_552
  let c1_i32_553 : BitVec 32 := 1#32
  ⟨c0_i32_551, v1831, c1_i32_553⟩
@[reducible] def k0_t13_loop : Scf.Loop 32 :=
  let c0_i32_555 : BitVec 32 := 0#32
  let c18_i32_556 : BitVec 32 := 18#32
  let v1839 : BitVec 32 := Scalar.addi c0_i32_555 c18_i32_556
  let c1_i32_557 : BitVec 32 := 1#32
  ⟨c0_i32_555, v1839, c1_i32_557⟩
@[reducible] def k0_t14_loop : Scf.Loop 32 :=
  let c0_i32_559 : BitVec 32 := 0#32
  let c18_i32_560 : BitVec 32 := 18#32
  let v1847 : BitVec 32 := Scalar.addi c0_i32_559 c18_i32_560
  let c1_i32_561 : BitVec 32 := 1#32
  ⟨c0_i32_559, v1847, c1_i32_561⟩
@[reducible] def k0_t15_loop : Scf.Loop 32 :=
  let c0_i32_563 : BitVec 32 := 0#32
  let c18_i32_564 : BitVec 32 := 18#32
  let v1855 : BitVec 32 := Scalar.addi c0_i32_563 c18_i32_564
  let c1_i32_565 : BitVec 32 := 1#32
  ⟨c0_i32_563, v1855, c1_i32_565⟩
@[reducible] def k0_t16_loop : Scf.Loop 32 :=
  let c0_i32_567 : BitVec 32 := 0#32
  let c18_i32_568 : BitVec 32 := 18#32
  let v1863 : BitVec 32 := Scalar.addi c0_i32_567 c18_i32_568
  let c1_i32_569 : BitVec 32 := 1#32
  ⟨c0_i32_567, v1863, c1_i32_569⟩
@[reducible] def k0_t17_loop : Scf.Loop 32 :=
  let c0_i32_571 : BitVec 32 := 0#32
  let c18_i32_572 : BitVec 32 := 18#32
  let v1871 : BitVec 32 := Scalar.addi c0_i32_571 c18_i32_572
  let c1_i32_573 : BitVec 32 := 1#32
  ⟨c0_i32_571, v1871, c1_i32_573⟩
@[reducible] def k0_t18_loop : Scf.Loop 32 :=
  let c0_i32_575 : BitVec 32 := 0#32
  let c18_i32_576 : BitVec 32 := 18#32
  let v1879 : BitVec 32 := Scalar.addi c0_i32_575 c18_i32_576
  let c1_i32_577 : BitVec 32 := 1#32
  ⟨c0_i32_575, v1879, c1_i32_577⟩
@[reducible] def k0_t19_loop : Scf.Loop 32 :=
  let c0_i32_579 : BitVec 32 := 0#32
  let c18_i32_580 : BitVec 32 := 18#32
  let v1887 : BitVec 32 := Scalar.addi c0_i32_579 c18_i32_580
  let c1_i32_581 : BitVec 32 := 1#32
  ⟨c0_i32_579, v1887, c1_i32_581⟩
@[reducible] def k0_t20_loop : Scf.Loop 32 :=
  let c0_i32_583 : BitVec 32 := 0#32
  let c18_i32_584 : BitVec 32 := 18#32
  let v1895 : BitVec 32 := Scalar.addi c0_i32_583 c18_i32_584
  let c1_i32_585 : BitVec 32 := 1#32
  ⟨c0_i32_583, v1895, c1_i32_585⟩
@[reducible] def k0_t21_loop : Scf.Loop 32 :=
  let c0_i32_587 : BitVec 32 := 0#32
  let c18_i32_588 : BitVec 32 := 18#32
  let v1903 : BitVec 32 := Scalar.addi c0_i32_587 c18_i32_588
  let c1_i32_589 : BitVec 32 := 1#32
  ⟨c0_i32_587, v1903, c1_i32_589⟩
@[reducible] def k0_t22_loop : Scf.Loop 32 :=
  let c0_i32_591 : BitVec 32 := 0#32
  let c18_i32_592 : BitVec 32 := 18#32
  let v1911 : BitVec 32 := Scalar.addi c0_i32_591 c18_i32_592
  let c1_i32_593 : BitVec 32 := 1#32
  ⟨c0_i32_591, v1911, c1_i32_593⟩
@[reducible] def k0_t23_loop : Scf.Loop 32 :=
  let c0_i32_595 : BitVec 32 := 0#32
  let c18_i32_596 : BitVec 32 := 18#32
  let v1919 : BitVec 32 := Scalar.addi c0_i32_595 c18_i32_596
  let c1_i32_597 : BitVec 32 := 1#32
  ⟨c0_i32_595, v1919, c1_i32_597⟩
@[reducible] def k0_t24_loop : Scf.Loop 32 :=
  let c0_i32_599 : BitVec 32 := 0#32
  let c18_i32_600 : BitVec 32 := 18#32
  let v1927 : BitVec 32 := Scalar.addi c0_i32_599 c18_i32_600
  let c1_i32_601 : BitVec 32 := 1#32
  ⟨c0_i32_599, v1927, c1_i32_601⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x64x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S512x64x768 : Shape := ⟨3, ![512, 64, 768]⟩
abbrev S2304x768 : Shape := ⟨2, ![2304, 768]⟩
abbrev S2304 : Shape := ⟨1, ![2304]⟩
abbrev S64 : Shape := ⟨1, ![64]⟩
abbrev S768x768 : Shape := ⟨2, ![768, 768]⟩
abbrev S768 : Shape := ⟨1, ![768]⟩
abbrev S768x2304 : Shape := ⟨2, ![768, 2304]⟩
abbrev S512x64x2304 : Shape := ⟨3, ![512, 64, 2304]⟩
abbrev S1x1x2304 : Shape := ⟨3, ![1, 1, 2304]⟩
abbrev S512x64x3x12x64 : Shape := ⟨5, ![512, 64, 3, 12, 64]⟩
abbrev S3x512x12x64x64 : Shape := ⟨5, ![3, 512, 12, 64, 64]⟩
abbrev S1x512x12x64x64 : Shape := ⟨5, ![1, 512, 12, 64, 64]⟩
abbrev S512x12x64x64 : Shape := ⟨4, ![512, 12, 64, 64]⟩
abbrev S_ : Shape := ⟨0, ![]⟩
abbrev S512x12x64 : Shape := ⟨3, ![512, 12, 64]⟩
abbrev S512x12x64x1 : Shape := ⟨4, ![512, 12, 64, 1]⟩
abbrev S1x1x1x64 : Shape := ⟨4, ![1, 1, 1, 64]⟩
abbrev S512x12x64x19 : Shape := ⟨4, ![512, 12, 64, 19]⟩
abbrev S393216x19 : Shape := ⟨2, ![393216, 19]⟩
abbrev S393216 : Shape := ⟨1, ![393216]⟩
abbrev S393216x1 : Shape := ⟨2, ![393216, 1]⟩
abbrev S393216x64 : Shape := ⟨2, ![393216, 64]⟩
abbrev S393216x19x1 : Shape := ⟨3, ![393216, 19, 1]⟩
abbrev S393216x19x2 : Shape := ⟨3, ![393216, 19, 2]⟩
abbrev S512x64x12x64 : Shape := ⟨4, ![512, 64, 12, 64]⟩
abbrev S1x1x768 : Shape := ⟨3, ![1, 1, 768]⟩

abbrev nBuf : Space → Nat
  | .hbm => 137
  | .vmem => 0
  | .smem => 0
  | _ => 0

abbrev hbmTy0_0 (i : Nat) : BufTy := match i % 128 with
  | 0 => ⟨S512x64x768, .f32⟩
  | 1 => ⟨S2304x768, .f32⟩
  | 2 => ⟨S2304, .f32⟩
  | 3 => ⟨S64, .f32⟩
  | 4 => ⟨S64, .f32⟩
  | 5 => ⟨S64, .f32⟩
  | 6 => ⟨S64, .f32⟩
  | 7 => ⟨S768x768, .f32⟩
  | 8 => ⟨S768, .f32⟩
  | 9 => ⟨S768x2304, .f32⟩
  | 10 => ⟨S512x64x2304, .f32⟩
  | 11 => ⟨S1x1x2304, .f32⟩
  | 12 => ⟨S512x64x2304, .f32⟩
  | 13 => ⟨S512x64x2304, .f32⟩
  | 14 => ⟨S512x64x3x12x64, .f32⟩
  | 15 => ⟨S3x512x12x64x64, .f32⟩
  | 16 => ⟨S1x512x12x64x64, .f32⟩
  | 17 => ⟨S512x12x64x64, .f32⟩
  | 18 => ⟨S1x512x12x64x64, .f32⟩
  | 19 => ⟨S512x12x64x64, .f32⟩
  | 20 => ⟨S1x512x12x64x64, .f32⟩
  | 21 => ⟨S512x12x64x64, .f32⟩
  | 22 => ⟨S_, .f32⟩
  | 23 => ⟨S512x12x64, .f32⟩
  | 24 => ⟨S512x12x64x1, .f32⟩
  | 25 => ⟨S_, .f32⟩
  | 26 => ⟨S512x12x64x1, .f32⟩
  | 27 => ⟨S512x12x64x1, .f32⟩
  | 28 => ⟨S512x12x64x64, .f32⟩
  | 29 => ⟨S512x12x64x64, .f32⟩
  | 30 => ⟨S512x12x64x64, .f32⟩
  | 31 => ⟨S_, .f32⟩
  | 32 => ⟨S512x12x64, .f32⟩
  | 33 => ⟨S512x12x64x1, .f32⟩
  | 34 => ⟨S_, .f32⟩
  | 35 => ⟨S512x12x64x1, .f32⟩
  | 36 => ⟨S512x12x64x1, .f32⟩
  | 37 => ⟨S512x12x64x64, .f32⟩
  | 38 => ⟨S512x12x64x64, .f32⟩
  | 39 => ⟨S_, .f32⟩
  | 40 => ⟨S512x12x64x1, .f32⟩
  | 41 => ⟨S512x12x64x1, .f32⟩
  | 42 => ⟨S512x12x64x1, .f32⟩
  | 43 => ⟨S512x12x64x64, .f32⟩
  | 44 => ⟨S512x12x64x64, .f32⟩
  | 45 => ⟨S1x1x1x64, .f32⟩
  | 46 => ⟨S512x12x64x64, .f32⟩
  | 47 => ⟨S512x12x64x64, .f32⟩
  | 48 => ⟨S1x1x1x64, .f32⟩
  | 49 => ⟨S512x12x64x64, .f32⟩
  | 50 => ⟨S512x12x64x64, .f32⟩
  | 51 => ⟨S_, .f32⟩
  | 52 => ⟨S512x12x64, .f32⟩
  | 53 => ⟨S512x12x64x1, .f32⟩
  | 54 => ⟨S_, .f32⟩
  | 55 => ⟨S512x12x64x1, .f32⟩
  | 56 => ⟨S512x12x64x1, .f32⟩
  | 57 => ⟨S512x12x64x64, .f32⟩
  | 58 => ⟨S512x12x64x64, .f32⟩
  | 59 => ⟨S512x12x64x64, .f32⟩
  | 60 => ⟨S_, .f32⟩
  | 61 => ⟨S512x12x64, .f32⟩
  | 62 => ⟨S512x12x64x1, .f32⟩
  | 63 => ⟨S_, .f32⟩
  | 64 => ⟨S512x12x64x1, .f32⟩
  | 65 => ⟨S512x12x64x1, .f32⟩
  | 66 => ⟨S512x12x64x64, .f32⟩
  | 67 => ⟨S512x12x64x64, .f32⟩
  | 68 => ⟨S_, .f32⟩
  | 69 => ⟨S512x12x64x1, .f32⟩
  | 70 => ⟨S512x12x64x1, .f32⟩
  | 71 => ⟨S512x12x64x1, .f32⟩
  | 72 => ⟨S512x12x64x64, .f32⟩
  | 73 => ⟨S512x12x64x64, .f32⟩
  | 74 => ⟨S1x1x1x64, .f32⟩
  | 75 => ⟨S512x12x64x64, .f32⟩
  | 76 => ⟨S512x12x64x64, .f32⟩
  | 77 => ⟨S1x1x1x64, .f32⟩
  | 78 => ⟨S512x12x64x64, .f32⟩
  | 79 => ⟨S512x12x64x64, .f32⟩
  | 80 => ⟨S512x12x64x64, .f32⟩
  | 81 => ⟨S512x12x64x64, .f32⟩
  | 82 => ⟨S_, .f32⟩
  | 83 => ⟨S512x12x64x64, .f32⟩
  | 84 => ⟨S512x12x64x64, .f32⟩
  | 85 => ⟨S512x12x64x19, .f32⟩
  | 86 => ⟨S512x12x64x19, .i32⟩
  | 87 => ⟨S393216x19, .i32⟩
  | 88 => ⟨S393216, .i32⟩
  | 89 => ⟨S393216x1, .i32⟩
  | 90 => ⟨S_, .f32⟩
  | 91 => ⟨S393216x64, .f32⟩
  | 92 => ⟨S_, .i32⟩
  | 93 => ⟨S393216x1, .i32⟩
  | 94 => ⟨S393216x1, .i1⟩
  | 95 => ⟨S_, .i32⟩
  | 96 => ⟨S393216x1, .i32⟩
  | 97 => ⟨S393216x1, .i32⟩
  | 98 => ⟨S393216x1, .i32⟩
  | 99 => ⟨S_, .i32⟩
  | 100 => ⟨S393216x19, .i32⟩
  | 101 => ⟨S393216x19, .i1⟩
  | 102 => ⟨S_, .i32⟩
  | 103 => ⟨S393216x19, .i32⟩
  | 104 => ⟨S393216x19, .i32⟩
  | 105 => ⟨S393216x19, .i32⟩
  | 106 => ⟨S393216x19, .i32⟩
  | 107 => ⟨S393216x19x1, .i32⟩
  | 108 => ⟨S393216x19x1, .i32⟩
  | 109 => ⟨S393216x19x2, .i32⟩
  | 110 => ⟨S_, .f32⟩
  | 111 => ⟨S393216x19, .f32⟩
  | 112 => ⟨S393216x64, .f32⟩
  | 113 => ⟨S512x12x64x64, .f32⟩
  | 114 => ⟨S512x12x64x64, .f32⟩
  | 115 => ⟨S_, .f32⟩
  | 116 => ⟨S512x12x64, .f32⟩
  | 117 => ⟨S_, .f32⟩
  | 118 => ⟨S512x12x64, .f32⟩
  | 119 => ⟨S512x12x64, .f32⟩
  | 120 => ⟨S512x12x64x1, .f32⟩
  | 121 => ⟨S512x12x64x64, .f32⟩
  | 122 => ⟨S512x12x64x64, .f32⟩
  | 123 => ⟨S512x12x64x64, .f32⟩
  | 124 => ⟨S_, .f32⟩
  | 125 => ⟨S512x12x64, .f32⟩
  | 126 => ⟨S512x12x64x1, .f32⟩
  | 127 => ⟨S512x12x64x64, .f32⟩
  | _ => ⟨S512x64x768, .f32⟩

abbrev hbmTy0_1 (i : Nat) : BufTy := match i % 128 with
  | 0 => ⟨S512x12x64x64, .f32⟩
  | 1 => ⟨S512x12x64x64, .f32⟩
  | 2 => ⟨S512x64x12x64, .f32⟩
  | 3 => ⟨S512x64x768, .f32⟩
  | 4 => ⟨S768x768, .f32⟩
  | 5 => ⟨S512x64x768, .f32⟩
  | 6 => ⟨S1x1x768, .f32⟩
  | 7 => ⟨S512x64x768, .f32⟩
  | 8 => ⟨S512x64x768, .f32⟩
  | _ => ⟨S512x64x768, .f32⟩

abbrev hbmTy (i : Nat) : BufTy := match i / 128 with
  | 0 => hbmTy0_0 i
  | 1 => hbmTy0_1 i
  | _ => ⟨S512x64x768, .f32⟩

abbrev bufTy : (tb : Table) → Fin (tcTables nBuf tb) → BufTy
  | .hbm, ⟨i, _⟩ => hbmTy i
  | _, _ => ⟨S512x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_values : Ref sig .tc := ⟨.hbm, 85, rfl⟩
abbrev main_indices : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_c : Ref sig .tc := ⟨.hbm, 92, rfl⟩
abbrev main_v69 : Ref sig .tc := ⟨.hbm, 93, rfl⟩
abbrev main_v70 : Ref sig .tc := ⟨.hbm, 94, rfl⟩
abbrev main_c_11 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_12 : Ref sig .tc := ⟨.hbm, 99, rfl⟩
abbrev main_v74 : Ref sig .tc := ⟨.hbm, 100, rfl⟩
abbrev main_v75 : Ref sig .tc := ⟨.hbm, 101, rfl⟩
abbrev main_c_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_cst_16 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_17 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩

abbrev nD : Nat := 1
abbrev τ : Topo := Topo.v7x

variable {F : FTy → Type} [FloatOps F]
-- ==== Proof.Block.lean ====
/-
  One grid point of the kernel, as a function of the blocks it reads.

  The printed kernel repeats the same few stages for every head and every pair of windows. Here each
  stage is written once, with the head `h : Fin 12` and the pair `p : Fin 8` as parameters, and
  `run_eq` says the printed body computes exactly these stages.
-/
module

public import proofs.«01_k».proof.Proof.Gen.KernelIdeal.Value
public import Idealize.ShloMosaic.Lib.Pipeline.ValueKit

@[expose] public section

set_option maxRecDepth 16384

noncomputable section

namespace Cert.KernelIdeal.Gen

open Idealize.ShloMosaic

variable {F : FTy → Type} [FloatOps F]

theorem slices_head (o : Fin 36) : S1024x2304.Slices ![0, 64 * o.val] S1024x64 := by
  revert o; decide
theorem slices_pair (p : Fin 8) : S1024x64.Slices ![128 * p.val, 0] S128x64 := by
  revert p; decide
theorem slices_thr (g : Fin 96) : S128x96.Slices ![0, g.val] S128x1 := by
  revert g; decide

/-- Columns `64 o … 64 o + 63` of the block's projected rows: queries, keys and values head by head. -/
def headCols (Q : FVec F S1024x2304 .f32) (o : Fin 36) : FVec F S1024x64 .f32 :=
  extractStridedSlice S1024x64 ![0, 64 * o.val] Q (slices_head o)

/-- The mean of each row of 64 numbers, as a column. -/
def rowMean (q : FVec F S1024x64 .f32) : FVec F S1024x1 .f32 :=
  divf (shapeCast S1024x1
      (multiReduction .add [1] S1024 q 0x00000000#32 reduces_S1024x64_S1024 (.inl rfl) rfl)
      shapeCasts_S1024_S1024x1)
    (broadcast S1024x1 (Scalar.ofBits .f32 0x42800000#32))

/-- A block with the mean of each row taken away. -/
def centred (q : FVec F S1024x64 .f32) : FVec F S1024x64 .f32 :=
  subf q (broadcastTo S1024x64 (rowMean q) broadcasts_S1024x1_S1024x64)

/-- Layer normalisation of each row of 64 numbers. -/
def lnRows (q : FVec F S1024x64 .f32) (g b : Vec F S1x64 .f32) : FVec F S1024x64 .bf16 :=
  truncf .bf16
    (addf
      (mulf
        (divf (centred q)
          (broadcastTo S1024x64
            (sqrt (addf (rowMean (mulf (centred q) (centred q)))
              (broadcast S1024x1 (Scalar.ofBits .f32 0x3727C5AC#32))))
            broadcasts_S1024x1_S1024x64))
        (broadcastTo S1024x64 (shapeCast S1x64 g shapeCasts_S1x64_S1x64) broadcasts_S1x64_S1024x64))
      (broadcastTo S1024x64 (shapeCast S1x64 b shapeCasts_S1x64_S1x64) broadcasts_S1x64_S1024x64))
    bitsLt_bf16_f32

/-- The 128 rows of the pair `p` of windows. -/
def pairRows (q : FVec F S1024x64 .bf16) (p : Fin 8) : FVec F S128x64 .bf16 :=
  extractStridedSlice S128x64 ![128 * p.val, 0] q (slices_pair p)

/-- The products of the rows of `a` with the rows of `b`. -/
def prods (a b : FVec F S128x64 .bf16) : FVec F S128x128 .f32 :=
  matmul dot_S128x64_S64x128_S128x128_1_0_0_1_n_n none a
    (transpose S64x128 [1, 0] b transposes_S128x64_p1_0_S64x128)
    (constant S128x128 .f32 0x00000000#32)

/-- The scaled scores of a pair, a query to a row. -/
def pairScores (q k : FVec F S128x64 .bf16) : FVec F S128x128 .f32 :=
  mulf (prods q k) (broadcast S128x128 (Scalar.ofBits .f32 0x3E000000#32))

/-- The two diagonal blocks of the unscaled scores, a query to a column. -/
def packed (q k : FVec F S128x64 .bf16) : FVec F S64x128 .f32 :=
  concatenate S64x128 1
    [⟨S64x64, extractStridedSlice S64x64 ![0, 0] (prods k q) slices_S128x128_o0_0_S64x64⟩,
     ⟨S64x64, extractStridedSlice S64x64 ![64, 64] (prods k q) slices_S128x128_o64_64_S64x64⟩]
    concatenates_S64x64_S64x64_S64x128_d1

theorem concatenates_chunk (w : Fin 4 → FVec F S1x64x128 .f32) :
    Shape.Concatenates ((List.ofFn fun s : Fin 4 =>
      (⟨S1x64x128, w s⟩ : (s : Shape) × (s.Idx → F .f32))).map (·.1)) S4x64x128 0 :=
  concatenates_S1x64x128_S1x64x128_S1x64x128_S1x64x128_S4x64x128_d0

/-- Four packed blocks stacked. -/
def chunk (w : Fin 4 → FVec F S64x128 .f32) : FVec F S4x64x128 .f32 :=
  concatenate S4x64x128 0
    (List.ofFn fun s : Fin 4 => ⟨S1x64x128, shapeCast S1x64x128 (w s) shapeCasts_S64x128_S1x64x128⟩)
    (concatenates_chunk _)

/-- The greatest entry of each column of 64. -/
def colMax (a : FVec F S4x64x128 .f32) : FVec F S4x128 .f32 :=
  multiReduction .maximumf [1] S4x128 a 0xFF800000#32 reduces_S4x64x128_S4x128 (.inl rfl) rfl

/-- Every entry equal to the greatest of its column replaced by minus infinity. -/
def dropMax (a : FVec F S4x64x128 .f32) : FVec F S4x64x128 .f32 :=
  select
    (cmpf .oeq a
      (broadcastTo S4x64x128 (shapeCast S4x1x128 (colMax a) shapeCasts_S4x128_S4x1x128)
        broadcasts_S4x1x128_S4x64x128))
    (broadcast S4x64x128 (Scalar.ofBits .f32 0xFF800000#32)) a

/-- What is greatest after eighteen maxima have been dropped. -/
def nineteenth (a : FVec F S4x64x128 .f32) : FVec F S4x128 .f32 :=
  colMax (Scf.fold (n := 18) (fun _ a => dropMax a) a)

theorem concatenates_thr (w : Fin 24 → FVec F S4x128 .f32) :
    Shape.Concatenates ((List.ofFn fun s : Fin 24 =>
      (⟨S4x128, w s⟩ : (s : Shape) × (s.Idx → F .f32))).map (·.1)) S96x128 0 :=
  concatenates_S4x128_S4x128_S4x128_S4x128_S4x128_S4x128_S4x128_S4x128_S4x128_S4x128_S4x128_S4x128_S4x128_S4x128_S4x128_S4x128_S4x128_S4x128_S4x128_S4x128_S4x128_S4x128_S4x128_S4x128_S96x128_d0

/-- The nineteenth scores of the 96 packed blocks, one row to each, found four blocks at a time. -/
def thrRows (w : Fin 96 → FVec F S64x128 .f32) : FVec F S96x128 .f32 :=
  concatenate S96x128 0
    (List.ofFn fun i : Fin 24 =>
      ⟨S4x128, nineteenth (chunk fun s : Fin 4 => w ⟨4 * i.val + s.val, by omega⟩)⟩)
    (concatenates_thr _)

/-- The thresholds, one column to each head and pair, from the 96 packed blocks. -/
def thresholds (w : Fin 96 → FVec F S64x128 .f32) : FVec F S128x96 .f32 :=
  transpose S128x96 [1, 0]
    (subf
      (mulf (thrRows w) (broadcast S96x128 (Scalar.ofBits .f32 0x3E000000#32)))
      (broadcast S96x128 (Scalar.ofBits .f32 0x37FBA882#32)))
    transposes_S96x128_p1_0_S128x96

/-- Ones where query and key lie in the same window of the pair. -/
def sameWindow : IVec S128x128 1 :=
  k0_pay576 (iota .tc S128x128 32 [1] iota_S128x128_d1_w32) k0_pay575

/-- The exponentials of the scores kept, nought elsewhere. -/
def weights (a : FVec F S128x128 .f32) (T : FVec F S128x96 .f32) (g : Fin 96) :
    FVec F S128x128 .bf16 :=
  truncf .bf16
    (select
      (andi sameWindow
        (cmpf .oge a
          (broadcastTo S128x128 (extractStridedSlice S128x1 ![0, g.val] T (slices_thr g))
            broadcasts_S128x1_S128x128)))
      (exp a) (broadcast S128x128 (Scalar.ofBits .f32 0x00000000#32)))
    bitsLt_bf16_f32

/-- The rows of the values with a column of ones. -/
def valuesOnes (V : FVec F S1024x64 .f32) (p : Fin 8) : FVec F S128x65 .bf16 :=
  concatenate S128x65 1
    [⟨S128x64, truncf .bf16 (extractStridedSlice S128x64 ![128 * p.val, 0] V (slices_pair p))
        bitsLt_bf16_f32⟩,
     ⟨S128x1, broadcast S128x1 (Scalar.ofBits .bf16 0x3F80#16)⟩]
    concatenates_S128x64_S128x1_S128x65_d1

/-- Weighted values together with the sum of the weights. -/
def weighted (e : FVec F S128x128 .bf16) (v : FVec F S128x65 .bf16) : FVec F S128x65 .f32 :=
  matmul dot_S128x128_S128x65_S128x65_1_0_0_1_n_n none e v (constant S128x65 .f32 0x00000000#32)

/-- The weighted values over the sum of the weights. -/
def normalised (o : FVec F S128x65 .f32) : FVec F S128x64 .f32 :=
  mulf (extractStridedSlice S128x64 ![0, 0] o slices_S128x65_o0_0_S128x64)
    (broadcastTo S128x64
      (divf (broadcast S128x1 (Scalar.ofBits .f32 0x3F800000#32))
        (extractStridedSlice S128x1 ![0, 64] o slices_S128x65_o0_64_S128x1))
      broadcasts_S128x1_S128x64)

/-- The head `h` of the queries, normalised. -/
def qHead (Q : FVec F S1024x2304 .f32) (g b : Vec F S1x64 .f32) (h : Fin 12) : FVec F S1024x64 .bf16 :=
  lnRows (headCols Q ⟨h.val, by omega⟩) g b
/-- The head `h` of the keys, normalised. -/
def kHead (Q : FVec F S1024x2304 .f32) (g b : Vec F S1x64 .f32) (h : Fin 12) : FVec F S1024x64 .bf16 :=
  lnRows (headCols Q ⟨12 + h.val, by omega⟩) g b

/-- All thresholds of the block. -/
def blockThr (Q : FVec F S1024x2304 .f32) (gq bq gk bk : Vec F S1x64 .f32) : FVec F S128x96 .f32 :=
  thresholds fun g : Fin 96 =>
    packed (pairRows (qHead Q gq bq ⟨g.val / 8, by omega⟩) ⟨g.val % 8, by omega⟩)
      (pairRows (kHead Q gk bk ⟨g.val / 8, by omega⟩) ⟨g.val % 8, by omega⟩)

/-- The attention of the head `h` on the pair `p`. -/
def part (Q : FVec F S1024x2304 .f32) (gq bq gk bk : Vec F S1x64 .f32) (h : Fin 12) (p : Fin 8) :
    FVec F S128x64 .f32 :=
  normalised
    (weighted
      (weights (pairScores (pairRows (qHead Q gq bq h) p) (pairRows (kHead Q gk bk h) p))
        (blockThr Q gq bq gk bk) ⟨8 * h.val + p.val, by omega⟩)
      (valuesOnes (headCols Q ⟨24 + h.val, by omega⟩) p))

theorem concatenates_pairs (w : Fin 8 → FVec F S128x64 .f32) :
    Shape.Concatenates ((List.ofFn fun s : Fin 8 =>
      (⟨S128x64, w s⟩ : (s : Shape) × (s.Idx → F .f32))).map (·.1)) S1024x64 0 :=
  concatenates_S128x64_S128x64_S128x64_S128x64_S128x64_S128x64_S128x64_S128x64_S1024x64_d0
theorem concatenates_heads (w : Fin 12 → FVec F S1024x64 .f32) :
    Shape.Concatenates ((List.ofFn fun s : Fin 12 =>
      (⟨S1024x64, w s⟩ : (s : Shape) × (s.Idx → F .f32))).map (·.1)) S1024x768 1 :=
  concatenates_S1024x64_S1024x64_S1024x64_S1024x64_S1024x64_S1024x64_S1024x64_S1024x64_S1024x64_S1024x64_S1024x64_S1024x64_S1024x768_d1

/-- One head of the block, pair under pair. -/
def column (Q : FVec F S1024x2304 .f32) (gq bq gk bk : Vec F S1x64 .f32) (h : Fin 12) :
    FVec F S1024x64 .f32 :=
  concatenate S1024x64 0 (List.ofFn fun p : Fin 8 => ⟨S128x64, part Q gq bq gk bk h p⟩)
    (concatenates_pairs _)

/-- All heads side by side. -/
def heads (Q : FVec F S1024x2304 .f32) (gq bq gk bk : Vec F S1x64 .f32) : FVec F S1024x768 .f32 :=
  concatenate S1024x768 1 (List.ofFn fun h : Fin 12 => ⟨S1024x64, column Q gq bq gk bk h⟩)
    (concatenates_heads _)

/-- The block the grid point writes. -/
def outBlock (x0 : Vec F S16x64x768 .bf16) (x1 : Vec F S768x2304 .bf16) (x2 : Vec F S1x2304 .f32)
    (x3 x4 x5 x6 : Vec F S1x64 .f32) (x7 : Vec F S768x768 .bf16) (x8 : Vec F S1x768 .f32) :
    FVec F S16x64x768 .f32 :=
  k0_pay1 (heads (k0_pay2 x0 x1 x2) x3 x4 x5 x6) x7 x8

/-- The run writes one piece, the whole block, and it is `outBlock` of the blocks loaded. -/
theorem run_eq (c : Dev nD) (i : grid0.Coords)
    (a1 : Memref sig .tc .vmem S16x64x768 .bf16) (h1 : a1.IsWhole) (a2 : Memref sig .tc .vmem S768x2304 .bf16) (h2 : a2.IsWhole) (a3 : Memref sig .tc .vmem S1x2304 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (a8 : Memref sig .tc .vmem S768x768 .bf16) (h8 : a8.IsWhole) (a9 : Memref sig .tc .vmem S1x768 .f32) (h9 : a9.IsWhole) (a10 : Memref sig .tc .vmem S16x64x768 .f32) (h10 : a10.IsWhole)
    (x0 : Vec F S16x64x768 .bf16) (x1 : Vec F S768x2304 .bf16) (x2 : Vec F S1x2304 .f32) (x3 : Vec F S1x64 .f32) (x4 : Vec F S1x64 .f32) (x5 : Vec F S1x64 .f32) (x6 : Vec F S1x64 .f32) (x7 : Vec F S768x768 .bf16) (x8 : Vec F S1x768 .f32) :
    (kernelRun0_A (F := F) c i a1 h1 a2 h2 a3 h3 a4 h4 a5 h5 a6 h6 a7 h7 a8 h8 a9 h9 a10 h10 x0 x1 x2 x3 x4 x5 x6 x7 x8).1 =
      [⟨Rect.unit ![0, 0, 0] S16x64x768.size inb_S16x64x768_S16x64x768_0_0_0, outBlock
        (View.readAt (Elt F) a1.view (Rect.unit ![0, 0, 0] S16x64x768.size inb_S16x64x768_S16x64x768_0_0_0).toLoadRect (h1.unread x0))
        (View.readAt (Elt F) a2.view (Rect.unit ![0, 0] S768x2304.size inb_S768x2304_S768x2304_0_0).toLoadRect (h2.unread x1))
        (View.readAt (Elt F) a3.view (Rect.unit ![0, 0] S1x2304.size inb_S1x2304_S1x2304_0_0).toLoadRect (h3.unread x2))
        (View.readAt (Elt F) a4.view (Rect.unit ![0, 0] S1x64.size inb_S1x64_S1x64_0_0).toLoadRect (h4.unread x3))
        (View.readAt (Elt F) a5.view (Rect.unit ![0, 0] S1x64.size inb_S1x64_S1x64_0_0).toLoadRect (h5.unread x4))
        (View.readAt (Elt F) a6.view (Rect.unit ![0, 0] S1x64.size inb_S1x64_S1x64_0_0).toLoadRect (h6.unread x5))
        (View.readAt (Elt F) a7.view (Rect.unit ![0, 0] S1x64.size inb_S1x64_S1x64_0_0).toLoadRect (h7.unread x6))
        (View.readAt (Elt F) a8.view (Rect.unit ![0, 0] S768x768.size inb_S768x768_S768x768_0_0).toLoadRect (h8.unread x7))
        (View.readAt (Elt F) a9.view (Rect.unit ![0, 0] S1x768.size inb_S1x768_S1x768_0_0).toLoadRect (h9.unread x8))⟩] := by
  sl_kernel_rfl

/-- What the run leaves in the output block. -/
theorem out_eq (c : Dev nD) (i : grid0.Coords)
    (a1 : Memref sig .tc .vmem S16x64x768 .bf16) (h1 : a1.IsWhole) (a2 : Memref sig .tc .vmem S768x2304 .bf16) (h2 : a2.IsWhole) (a3 : Memref sig .tc .vmem S1x2304 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (a8 : Memref sig .tc .vmem S768x768 .bf16) (h8 : a8.IsWhole) (a9 : Memref sig .tc .vmem S1x768 .f32) (h9 : a9.IsWhole) (a10 : Memref sig .tc .vmem S16x64x768 .f32) (h10 : a10.IsWhole)
    (x0 : Vec F S16x64x768 .bf16) (x1 : Vec F S768x2304 .bf16) (x2 : Vec F S1x2304 .f32) (x3 : Vec F S1x64 .f32) (x4 : Vec F S1x64 .f32) (x5 : Vec F S1x64 .f32) (x6 : Vec F S1x64 .f32) (x7 : Vec F S768x768 .bf16) (x8 : Vec F S1x768 .f32) :
    out0_A_9 (F := F) c i a1 h1 a2 h2 a3 h3 a4 h4 a5 h5 a6 h6 a7 h7 a8 h8 a9 h9 a10 h10 x0 x1 x2 x3 x4 x5 x6 x7 x8 = outBlock x0 x1 x2 x3 x4 x5 x6 x7 x8 := by
  unfold out0_A_9
  rw [run_eq]
  simp (disch := decide) only [View.read_writes_junk_eq_canon, View.readAt_eq_ld,
    Memref.IsWhole.read_unread, View.canon_cons_unit_lit', View.ld_unit_lit']

end Cert.KernelIdeal.Gen
-- ==== Proof.TopMath.lean ====
/-
  The selection and the softmax of one row, over the extended reals.

  A row of 64 scores is ranked by `σ`, greatest first. The kernel drops the greatest entry eighteen
  times, takes what is then greatest, lowers it a little and keeps every score at or above it; the
  reference keeps the scores of the nineteen best ranks. `kernelRow_eq` says that under the
  separation of the ranked scores the two attention results agree.
-/
module

public import Idealize.ShloMosaic.PureOps.Ideal

@[expose] public section

noncomputable section

namespace Cert.Attention

open Idealize.ShloMosaic

/-- The greatest of 64 numbers, minus infinity below all. -/
def rowMax (f : Fin 64 → EReal) : EReal := Finset.univ.fold max ⊥ f

/-- Every entry equal to the greatest replaced by minus infinity. -/
def drop (f : Fin 64 → EReal) : Fin 64 → EReal := fun j => if f j = rowMax f then ⊥ else f j

/-- `drop`, `k` times. -/
def dropN (f : Fin 64 → EReal) : Nat → Fin 64 → EReal
  | 0 => f
  | k + 1 => drop (dropN f k)

/-- The greatest entry is any entry above all others. -/
theorem rowMax_eq (f : Fin 64 → EReal) (j : Fin 64) (h : ∀ i, f i ≤ f j) : rowMax f = f j := by
  apply le_antisymm
  · exact Finset.fold_max_le _ |>.2 ⟨bot_le, fun i _ => h i⟩
  · exact Finset.le_fold_max _ |>.2 (Or.inr ⟨j, Finset.mem_univ j, le_rfl⟩)

/-- `σ` lists the positions of `s` from the greatest entry down. -/
structure Ranked (s : Fin 64 → EReal) (σ : Fin 64 → Fin 64) : Prop where
  inj : Function.Injective σ
  surj : Function.Surjective σ
  anti : ∀ i j, i < j → s (σ j) ≤ s (σ i)

/-- The first nineteen ranked scores are finite above and distinct, and the twentieth lies more than
    `δ` under the nineteenth. -/
structure Separated (s : Fin 64 → EReal) (σ : Fin 64 → Fin 64) (δ : ℝ) : Prop where
  top : s (σ 0) < ⊤
  step : ∀ i : Fin 18, s (σ ⟨i.val + 1, by omega⟩) < s (σ ⟨i.val, by omega⟩)
  gap : s (σ 19) < s (σ 18) - (δ : EReal)

variable {s a : Fin 64 → EReal} {σ : Fin 64 → Fin 64} {δ c : ℝ}

theorem sub_small_le (x : EReal) (hδ : 0 ≤ δ) : x - (δ : EReal) ≤ x := by
  induction x using EReal.rec with
  | bot => simp
  | top => exact le_top
  | coe r => rw [← EReal.coe_sub, EReal.coe_le_coe_iff]; linarith

/-- Among the first nineteen ranks every later score is smaller. -/
theorem rank_lt (hr : Ranked s σ) (hs : Separated s σ δ) (hδ : 0 ≤ δ) (i j : Fin 64) (hi : i.val ≤ 18)
    (hij : i < j) : s (σ j) < s (σ i) := by
  have hle : ∀ k : Fin 64, k ≤ j → s (σ j) ≤ s (σ k) := fun k hk => by
    rcases hk.lt_or_eq with h | h
    · exact hr.anti k j h
    · rw [h]
  have hij' : i.val < j.val := hij
  by_cases h18 : i.val < 18
  · refine lt_of_le_of_lt (hle ⟨i.val + 1, by omega⟩ (by rw [Fin.le_def]; simp; omega)) ?_
    exact hs.step ⟨i.val, h18⟩
  · have e : i = 18 := Fin.ext (by simp; omega)
    subst e
    refine lt_of_le_of_lt (hle 19 (by rw [Fin.le_def]; simp at hij' ⊢; omega)) ?_
    exact lt_of_lt_of_le hs.gap (sub_small_le _ hδ)

/-- Scaling by a positive number keeps the order, so the unscaled scores are ranked alike. -/
theorem rank_lt_unscaled (hc : 0 < c) (ha : ∀ j, s j = a j * (c : EReal)) (hr : Ranked s σ)
    (hs : Separated s σ δ) (hδ : 0 ≤ δ) (i j : Fin 64) (hi : i.val ≤ 18) (hij : i < j) :
    a (σ j) < a (σ i) := by
  have h := rank_lt hr hs hδ i j hi hij
  rw [ha, ha] at h
  by_contra hn
  exact absurd h (not_lt.2 (mul_le_mul_of_nonneg_right (not_lt.1 hn) (by exact_mod_cast hc.le)))

/-- After `k` removals the first `k` ranks are gone and the rest stand. -/
theorem dropN_rank (hlt : ∀ i j : Fin 64, i.val ≤ 18 → i < j → a (σ j) < a (σ i))
    (hsurj : Function.Surjective σ) (k : Nat) (hk : k ≤ 18) (j : Fin 64) :
    dropN a k (σ j) = if j.val < k then ⊥ else a (σ j) := by
  induction k generalizing j with
  | zero => simp [dropN]
  | succ k ih =>
    have ih := ih (by omega)
    have hm : rowMax (dropN a k) = a (σ ⟨k, by omega⟩) := by
      have h0 := ih ⟨k, by omega⟩
      simp only [lt_irrefl, if_false] at h0
      rw [← h0]
      refine rowMax_eq _ _ fun i => ?_
      obtain ⟨i, rfl⟩ := hsurj i
      rw [h0, ih i]
      split
      · exact bot_le
      · next h =>
        rcases (not_lt.1 h).lt_or_eq with h | h
        · exact (hlt ⟨k, by omega⟩ i (by simp; omega) (by rw [Fin.lt_def]; exact h)).le
        · have : i = ⟨k, by omega⟩ := Fin.ext h.symm
          rw [this]
    show drop (dropN a k) (σ j) = _
    unfold drop
    rw [hm, ih j]
    by_cases h1 : j.val < k
    · rw [if_pos h1, ite_self, if_pos (h1.trans (Nat.lt_succ_self k))]
    · rw [if_neg h1]
      by_cases h2 : j.val = k
      · have : j = ⟨k, by omega⟩ := Fin.ext h2
        rw [this, if_pos rfl, if_pos (by simp)]
      · rw [if_neg, if_neg (by omega)]
        exact (hlt ⟨k, by omega⟩ j (by simp; omega) (by rw [Fin.lt_def]; simp; omega)).ne

/-- What is greatest after eighteen removals is the score of the nineteenth rank. -/
theorem rowMax_dropN (hlt : ∀ i j : Fin 64, i.val ≤ 18 → i < j → a (σ j) < a (σ i))
    (hsurj : Function.Surjective σ) : rowMax (dropN a 18) = a (σ 18) := by
  have h0 := dropN_rank hlt hsurj 18 le_rfl 18
  rw [if_neg (by decide)] at h0
  rw [← h0]
  refine rowMax_eq _ _ fun i => ?_
  obtain ⟨i, rfl⟩ := hsurj i
  rw [h0, dropN_rank hlt hsurj 18 le_rfl i]
  split
  · exact bot_le
  · next h =>
    rcases (not_lt.1 h).lt_or_eq with h | h
    · exact (hlt 18 i (by decide) (by rw [Fin.lt_def]; exact h)).le
    · have : i = 18 := Fin.ext h.symm
      rw [this]

/-- A score is at or above the lowered nineteenth exactly at the first nineteen ranks. -/
theorem keep_iff (hr : Ranked s σ) (hs : Separated s σ δ) (hδ : 0 ≤ δ) (j : Fin 64) :
    s (σ 18) - (δ : EReal) ≤ s (σ j) ↔ j.val ≤ 18 := by
  have hle : ∀ k l : Fin 64, k ≤ l → s (σ l) ≤ s (σ k) := fun k l hk => by
    rcases hk.lt_or_eq with h | h
    · exact hr.anti k l h
    · rw [h]
  constructor
  · intro h
    by_contra hn
    refine absurd (lt_of_lt_of_le hs.gap h) (not_lt.2 (hle 19 j ?_))
    rw [Fin.le_def]; simp; omega
  · intro h
    refine (sub_small_le _ hδ).trans (hle j 18 ?_)
    rw [Fin.le_def]; simpa using h

/-- The first nineteen scores are real. -/
theorem score_real (hr : Ranked s σ) (hs : Separated s σ δ) (j : Fin 64) (hj : j.val ≤ 18) :
    ∃ r : ℝ, s (σ j) = (r : EReal) := by
  have hle : ∀ k l : Fin 64, k ≤ l → s (σ l) ≤ s (σ k) := fun k l hk => by
    rcases hk.lt_or_eq with h | h
    · exact hr.anti k l h
    · rw [h]
  have hbot : s (σ 18) ≠ ⊥ := fun h => by
    have := hs.gap
    rw [h] at this
    simp at this
  have h1 : s (σ j) ≠ ⊤ := (lt_of_le_of_lt (hle 0 j (Fin.zero_le j)) hs.top).ne
  have h2 : s (σ j) ≠ ⊥ := fun h => hbot (le_bot_iff.1 (h ▸ hle j 18 (by rw [Fin.le_def]; simpa using hj)))
  exact ⟨(s (σ j)).toReal, (EReal.coe_toReal h1 h2).symm⟩

/-- The kernel's row: what is left after eighteen removals, scaled and lowered, is the threshold; the
    exponentials of the scores at or above it weigh the values, and their sum divides once. -/
def kernelRow (a v : Fin 64 → EReal) (c δ : EReal) : EReal :=
  (∑ j : Fin 64, (if rowMax (dropN a 18) * c - δ ≤ a j * c then Ideal.exp (a j * c) else 0) * v j)
    * Ideal.div 1
      (∑ j : Fin 64, if rowMax (dropN a 18) * c - δ ≤ a j * c then Ideal.exp (a j * c) else 0)

/-- The reference's row: a mask of noughts at the kept places and minus infinity elsewhere is added,
    the exponentials are taken under the greatest, and each is divided by their sum. -/
def referenceRow (s v : Fin 64 → EReal) (kept : Fin 64 → Prop) [DecidablePred kept] : EReal :=
  ∑ j : Fin 64,
    Ideal.div
      (Ideal.exp (s j + (if kept j then 0 else ⊥)
        - rowMax fun i => s i + (if kept i then 0 else ⊥)))
      (∑ k : Fin 64, Ideal.exp (s k + (if kept k then 0 else ⊥)
        - rowMax fun i => s i + (if kept i then 0 else ⊥))) * v j

/-! ### The constants of both programs -/

/-- `0.125`. -/
theorem bits_eighth : Ideal.ofBits .f32 0x3E000000#32 = ((1 / 8 : ℝ) : EReal) := by
  simp [Ideal.ofBits, Ideal.ieee, -EReal.coe_mul]; norm_num
/-- The amount the threshold is lowered by, a real number that is not negative. -/
theorem bits_slack : ∃ δ : ℝ, 0 ≤ δ ∧ Ideal.ofBits .f32 0x37FBA882#32 = (δ : EReal) := by
  refine ⟨(Ideal.ofBits .f32 0x37FBA882#32).toReal, ?_, ?_⟩
  · simp [Ideal.ofBits, Ideal.ieee, -EReal.coe_mul]
  · simp [Ideal.ofBits, Ideal.ieee, -EReal.coe_mul]
/-- Minus infinity. -/
theorem bits_neg_inf : Ideal.ofBits .f32 0xFF800000#32 = ⊥ := by
  simp [Ideal.ofBits, Ideal.ieee]
/-- Infinity. -/
theorem bits_inf : Ideal.ofBits .f32 0x7F800000#32 = ⊤ := by
  simp [Ideal.ofBits, Ideal.ieee]

theorem sum_mul_real (x : Fin 64 → EReal) (t : ℝ) (ht : 0 ≤ t) :
    (∑ j, x j) * (t : EReal) = ∑ j, x j * (t : EReal) := by
  let f : EReal →+ EReal :=
    { toFun := fun y => y * (t : EReal)
      map_zero' := zero_mul _
      map_add' := fun y z =>
        EReal.right_distrib_of_nonneg_of_ne_top (by exact_mod_cast ht) (EReal.coe_ne_top t) y z }
  exact map_sum f x Finset.univ

theorem div_coe (x y : ℝ) (hy : y ≠ 0) : Ideal.div (x : EReal) (y : EReal) = ((x / y : ℝ) : EReal) := by
  have : (y : EReal) ≠ 0 := by exact_mod_cast hy
  rw [Ideal.div, if_neg this, ← EReal.coe_inv, ← EReal.coe_mul, div_eq_mul_inv]

theorem sum_coe (r : Fin 64 → ℝ) : (∑ j, (r j : EReal)) = ((∑ j, r j : ℝ) : EReal) := by
  let f : ℝ →+ EReal :=
    { toFun := fun y => (y : EReal)
      map_zero' := EReal.coe_zero
      map_add' := EReal.coe_add }
  exact (map_sum f r Finset.univ).symm

/-- The two rows agree. -/
theorem kernelRow_eq (hc : 0 < c) (hδ : 0 ≤ δ) (ha : ∀ j, s j = a j * (c : EReal)) (hr : Ranked s σ)
    (hs : Separated s σ δ) (v : Fin 64 → EReal) (kept : Fin 64 → Prop) [DecidablePred kept]
    (hkept : ∀ j, kept (σ j) ↔ j.val ≤ 18) :
    kernelRow a v (c : EReal) (δ : EReal) = referenceRow s v kept := by
  have hthr : rowMax (dropN a 18) * (c : EReal) - (δ : EReal) = s (σ 18) - (δ : EReal) := by
    rw [rowMax_dropN (rank_lt_unscaled hc ha hr hs hδ) hr.surj, ← ha]
  have hk : ∀ j, (s (σ 18) - (δ : EReal) ≤ s j) ↔ kept j := fun j => by
    obtain ⟨j, rfl⟩ := hr.surj j
    rw [keep_iff hr hs hδ, hkept]
  have hreal : ∀ j, kept j → ∃ r : ℝ, s j = (r : EReal) := fun j hj => by
    obtain ⟨j, rfl⟩ := hr.surj j
    exact score_real hr hs j ((hkept j).1 hj)
  -- the greatest masked score is that of the first rank
  have h0 : kept (σ 0) := (hkept 0).2 (by decide)
  have hM : (rowMax fun i => s i + (if kept i then 0 else ⊥)) = s (σ 0) := by
    have := rowMax_eq (fun i => s i + (if kept i then 0 else ⊥)) (σ 0) fun i => by
      simp only [h0, if_true, add_zero]
      split
      · obtain ⟨i, rfl⟩ := hr.surj i
        rw [add_zero]
        rcases (Fin.zero_le i).lt_or_eq with h | h
        · exact hr.anti 0 i h
        · rw [← h]
      · rw [EReal.add_bot]; exact bot_le
    rw [this]; simp only [h0, if_true, add_zero]
  obtain ⟨M, hMr⟩ := hreal _ h0
  -- the weights as real numbers
  let x : Fin 64 → ℝ := fun j => (s j).toReal
  let e : Fin 64 → ℝ := fun j => if kept j then Real.exp (x j) else 0
  have hx : ∀ j, kept j → s j = (x j : EReal) := fun j hj => by
    obtain ⟨r, h⟩ := hreal j hj
    simp only [x, h, EReal.toReal_coe]
  have he : ∀ j, (if s (σ 18) - (δ : EReal) ≤ s j then Ideal.exp (s j) else 0) = (e j : EReal) := fun j => by
    by_cases h : kept j
    · rw [if_pos ((hk j).2 h)]
      simp only [e, if_pos h]
      conv_lhs => rw [hx j h]
      rfl
    · rw [if_neg (fun h' => h ((hk j).1 h'))]; simp [e, h]
  have hw : ∀ j, Ideal.exp (s j + (if kept j then 0 else ⊥) - (M : EReal))
      = ((e j * Real.exp (-M) : ℝ) : EReal) := fun j => by
    by_cases h : kept j
    · simp only [e, if_pos h, add_zero]
      conv_lhs => rw [hx j h]
      rw [← EReal.coe_sub, sub_eq_add_neg]
      show ((Real.exp (x j + -M) : ℝ) : EReal) = _
      rw [Real.exp_add]
    · simp only [e, if_neg h, zero_mul, EReal.add_bot]
      rw [EReal.bot_sub]; rfl
  have hz : 0 < ∑ j, e j := by
    refine Finset.sum_pos' (fun j _ => ?_) ⟨σ 0, Finset.mem_univ _, ?_⟩
    · simp only [e]; split <;> positivity
    · simp only [e, if_pos h0]; positivity
  have hen : ∀ j, 0 ≤ e j := fun j => by simp only [e]; split <;> positivity
  unfold kernelRow referenceRow
  simp only [hM, hMr, hw, hthr, ← ha, he, sum_coe]
  rw [show (1 : EReal) = ((1 : ℝ) : EReal) from rfl, div_coe _ _ hz.ne', sum_mul_real _ _ (by positivity)]
  refine Finset.sum_congr rfl fun j _ => ?_
  rw [← Finset.sum_mul, div_coe _ _ (mul_pos hz (Real.exp_pos _)).ne', mul_div_mul_right _ _ (Real.exp_pos _).ne',
    div_eq_mul_one_div (e j), EReal.coe_mul, mul_assoc, mul_assoc, mul_comm (v j)]

/-! ### The window's mathematics -/

/-- Layer normalisation of 64 numbers. -/
def lnAt (f g b : Fin 64 → EReal) (d : Fin 64) : EReal :=
  Ideal.div (f d - Ideal.div (∑ x, f x) (Ideal.ofBits .f32 0x42800000#32))
    (Ideal.sqrt
      (Ideal.div
        (∑ y, (f y - Ideal.div (∑ x, f x) (Ideal.ofBits .f32 0x42800000#32))
          * (f y - Ideal.div (∑ x, f x) (Ideal.ofBits .f32 0x42800000#32)))
        (Ideal.ofBits .f32 0x42800000#32)
        + Ideal.ofBits .f32 0x3727C5AC#32)) * g d + b d

/-- The product of the normalised query `n` and the normalised key `j` of the head `h`; `f n` are the
    2304 projected numbers of the row `n` of the window. -/
def dotAt (f : Fin 64 → Fin 2304 → EReal) (gq bq gk bk : Fin 64 → EReal) (h : Fin 12) (n j : Fin 64) :
    EReal :=
  ∑ d : Fin 64, lnAt (fun e => f n ⟨64 * h.val + e.val, by omega⟩) gq bq d
    * lnAt (fun e => f j ⟨768 + (64 * h.val + e.val), by omega⟩) gk bk d

/-- The value `d` of the row `j` for the head `h`. -/
def valueAt (f : Fin 64 → Fin 2304 → EReal) (h : Fin 12) (d j : Fin 64) : EReal :=
  f j ⟨1536 + (64 * h.val + d.val), by omega⟩

end Cert.Attention
-- ==== Proof.KRead.lean ====
/-
  The stages of a grid point, each read at one index over the extended reals.
-/
module

public import proofs.«01_k».proof.Proof.Block
public import proofs.«01_k».proof.Proof.TopMath
public import Idealize.ShloMosaic.Lib.Pointwise

@[expose] public section

set_option maxRecDepth 16384

noncomputable section

namespace Cert.KernelIdeal.Gen

open Idealize.ShloMosaic Cert.Attention

theorem headCols_at (Q : FVec Ideal S1024x2304 .f32) (o : Fin 36) (r : Fin 1024) (d : Fin 64) :
    headCols Q o (ix2 r d) = Q (ix2 r ⟨64 * o.val + d.val, by omega⟩) := by
  pointwise [headCols]

theorem rowMean_at (q : FVec Ideal S1024x64 .f32) (r : Fin 1024) (u : Fin 1) :
    rowMean q (ix2 r u) = Ideal.div (∑ d : Fin 64, q (ix2 r d)) (Ideal.ofBits .f32 0x42800000#32) := by
  pointwise [rowMean]

theorem centred_at (q : FVec Ideal S1024x64 .f32) (r : Fin 1024) (d : Fin 64) :
    centred q (ix2 r d)
      = q (ix2 r d) - Ideal.div (∑ d : Fin 64, q (ix2 r d)) (Ideal.ofBits .f32 0x42800000#32) := by
  pointwise [centred, rowMean_at]

theorem lnRows_at (q : FVec Ideal S1024x64 .f32) (g b : Vec Ideal S1x64 .f32) (r : Fin 1024) (d : Fin 64) :
    lnRows q g b (ix2 r d)
      = lnAt (fun e => q (ix2 r e)) (fun e => g (ix2 0 e)) (fun e => b (ix2 0 e)) d := by
  pointwise [lnRows, rowMean_at, centred_at]
  rfl

theorem pairRows_at (q : FVec Ideal S1024x64 .bf16) (p : Fin 8) (r : Fin 128) (d : Fin 64) :
    pairRows q p (ix2 r d) = q (ix2 ⟨128 * p.val + r.val, by omega⟩ d) := by
  pointwise [pairRows]

theorem prods_at (a b : FVec Ideal S128x64 .bf16) (r k : Fin 128) :
    prods a b (ix2 r k) = ∑ d : Fin 64, a (ix2 r d) * b (ix2 k d) := by
  pointwise [prods]

theorem packed_at (q k : FVec Ideal S128x64 .bf16) (j : Fin 64) (u : Fin 2) (n : Fin 64) :
    packed q k (ix2 j ⟨64 * u.val + n.val, by omega⟩)
      = prods k q (ix2 ⟨64 * u.val + j.val, by omega⟩ ⟨64 * u.val + n.val, by omega⟩) := by
  pointwise [packed]
  match u with
  | 0 => rw [dif_pos (by simp)]; congr 2 <;> simp
  | 1 => rw [dif_neg (by simp)]; congr 2 <;> simp

theorem colMax_at (a : FVec Ideal S4x64x128 .f32) (s : Fin 4) (r : Fin 128) :
    colMax a (ix2 s r) = rowMax (fun j : Fin 64 => a (ix3 s j r)) := by
  pointwise [colMax]
  rw [bits_neg_inf]; rfl

theorem dropMax_at (a : FVec Ideal S4x64x128 .f32) (s : Fin 4) (j : Fin 64) (r : Fin 128) :
    dropMax a (ix3 s j r) = drop (fun j : Fin 64 => a (ix3 s j r)) j := by
  pointwise [dropMax, colMax_at]
  rw [bits_neg_inf]; rfl

/-- Dropping the greatest of every column again and again, read in one column. -/
theorem drops_at (s : Fin 4) (r : Fin 128) (ks : List (Fin 18)) (a : FVec Ideal S4x64x128 .f32) :
    (fun j : Fin 64 => ks.foldl (fun acc _ => dropMax acc) a (ix3 s j r))
      = (drop^[ks.length]) (fun j : Fin 64 => a (ix3 s j r)) := by
  induction ks generalizing a with
  | nil => rfl
  | cons k ks ih =>
    rw [List.foldl_cons, ih, List.length_cons, Function.iterate_succ_apply]
    congr 1
    funext j
    exact dropMax_at a s j r

theorem dropN_eq (f : Fin 64 → EReal) (k : Nat) : dropN f k = (drop^[k]) f := by
  induction k with
  | zero => rfl
  | succ k ih => rw [Function.iterate_succ_apply', ← ih]; rfl

theorem nineteenth_at (a : FVec Ideal S4x64x128 .f32) (s : Fin 4) (r : Fin 128) :
    nineteenth a (ix2 s r) = rowMax (dropN (fun j : Fin 64 => a (ix3 s j r)) 18) := by
  rw [nineteenth, colMax_at, Scf.fold_eq, drops_at, dropN_eq, List.length_finRange]

theorem chunk_at (w : Fin 4 → FVec Ideal S64x128 .f32) (s : Fin 4) (j : Fin 64) (r : Fin 128) :
    chunk w (ix3 s j r) = w s (ix2 j r) := by
  have h := concatenate_ofFn_apply (t := S4x64x128) (s₁ := S1x64x128) 0
    (fun s => shapeCast S1x64x128 (w s) shapeCasts_S64x128_S1x64x128) (concatenates_chunk _) rfl 1 rfl
    (ix3 s j r) s (Nat.div_one _) (ix3 0 j r) (Nat.mod_one _).symm
    (by intro b hb; match b with
      | 0 => exact absurd rfl hb
      | 1 => rfl
      | 2 => rfl)
  rw [chunk, h]
  pointwise

theorem thrRows_at (w : Fin 96 → FVec Ideal S64x128 .f32) (r : Fin 128) (g : Fin 96) :
    thrRows w (ix2 g r) = rowMax (dropN (fun j : Fin 64 => w g (ix2 j r)) 18) := by
  have h := concatenate_ofFn_apply (t := S96x128) (s₁ := S4x128) 0
    (fun i : Fin 24 => nineteenth (chunk fun s : Fin 4 => w ⟨4 * i.val + s.val, by omega⟩))
    (concatenates_thr _) rfl 4 rfl (ix2 g r) ⟨g.val / 4, by omega⟩ rfl (ix2 ⟨g.val % 4, by omega⟩ r) rfl
    (by intro b hb; match b with
      | 0 => exact absurd rfl hb
      | 1 => rfl)
  rw [nineteenth_at] at h
  have e : (⟨4 * (g.val / 4) + g.val % 4, by omega⟩ : Fin 96) = g := Fin.ext (Nat.div_add_mod _ _)
  simp only [chunk_at, e] at h
  exact h

theorem thresholds_at (w : Fin 96 → FVec Ideal S64x128 .f32) (r : Fin 128) (g : Fin 96) :
    thresholds w (ix2 r g)
      = rowMax (dropN (fun j : Fin 64 => w g (ix2 j r)) 18) * Ideal.ofBits .f32 0x3E000000#32
        - Ideal.ofBits .f32 0x37FBA882#32 := by
  pointwise [thresholds, thrRows_at]

/-- The window of the row `r` of a pair, as a word. -/
theorem rowWindow_at (r k : Fin 128) : k0_pay575 (ix2 r k) = BitVec.ofNat 32 (r.val / 64) := by
  pointwise [k0_pay575]
  revert r
  decide

/-- Ones exactly where query and key lie in the same window. -/
theorem sameWindow_at (r k : Fin 128) :
    sameWindow (ix2 r k) = if r.val / 64 = k.val / 64 then 1#1 else 0#1 := by
  have h := rowWindow_at k r
  pointwise [k0_pay575] at h
  pointwise [sameWindow, k0_pay576, rowWindow_at]
  rw [h]
  generalize hr : r.val / 64 = x
  generalize hk : k.val / 64 = y
  have hx : x < 2 := by omega
  have hy : y < 2 := by omega
  interval_cases x <;> interval_cases y <;> decide

theorem weights_at (a : FVec Ideal S128x128 .f32) (T : FVec Ideal S128x96 .f32) (g : Fin 96) (r k : Fin 128) :
    weights a T g (ix2 r k)
      = if r.val / 64 = k.val / 64 ∧ T (ix2 r g) ≤ a (ix2 r k) then Ideal.exp (a (ix2 r k)) else 0 := by
  pointwise [weights, sameWindow_at]
  by_cases h1 : r.val / 64 = k.val / 64 <;> by_cases h2 : T (ix2 r g) ≤ a (ix2 r k) <;> simp [h1, h2]
  all_goals rfl

theorem valuesOnes_at (V : FVec Ideal S1024x64 .f32) (p : Fin 8) (k : Fin 128) (d : Fin 65) :
    valuesOnes V p (ix2 k d)
      = if h : d.val < 64 then V (ix2 ⟨128 * p.val + k.val, by omega⟩ ⟨d.val, h⟩) else 1 := by
  pointwise [valuesOnes]

theorem weighted_at (e : FVec Ideal S128x128 .bf16) (v : FVec Ideal S128x65 .bf16) (r : Fin 128) (d : Fin 65) :
    weighted e v (ix2 r d) = ∑ k : Fin 128, e (ix2 r k) * v (ix2 k d) := by
  pointwise [weighted]

theorem normalised_at (o : FVec Ideal S128x65 .f32) (r : Fin 128) (d : Fin 64) :
    normalised o (ix2 r d) = o (ix2 r ⟨d.val, by omega⟩) * Ideal.div 1 (o (ix2 r ⟨64, by omega⟩)) := by
  pointwise [normalised]

theorem qHead_at (Q : FVec Ideal S1024x2304 .f32) (g b : Vec Ideal S1x64 .f32) (h : Fin 12) (r : Fin 1024)
    (d : Fin 64) :
    qHead Q g b h (ix2 r d)
      = lnAt (fun e => Q (ix2 r ⟨64 * h.val + e.val, by omega⟩)) (fun e => g (ix2 0 e)) (fun e => b (ix2 0 e)) d := by
  rw [qHead, lnRows_at]
  simp only [headCols_at]

theorem kHead_at (Q : FVec Ideal S1024x2304 .f32) (g b : Vec Ideal S1x64 .f32) (h : Fin 12) (r : Fin 1024)
    (d : Fin 64) :
    kHead Q g b h (ix2 r d)
      = lnAt (fun e => Q (ix2 r ⟨768 + (64 * h.val + e.val), by omega⟩)) (fun e => g (ix2 0 e))
          (fun e => b (ix2 0 e)) d := by
  rw [kHead, lnRows_at]
  simp only [headCols_at]
  have e : ∀ e : Fin 64, (⟨64 * (12 + h.val) + e.val, by omega⟩ : Fin 2304) = ⟨768 + (64 * h.val + e.val), by omega⟩ :=
    fun e => Fin.ext (by dsimp only; omega)
  simp only [e]

/-- A sum over the 128 rows of a pair is the sum over the rows of its two windows. -/
theorem sum_pair (f : Fin 128 → EReal) :
    ∑ k, f k = ∑ j : Fin 64, f ⟨64 * 0 + j.val, by omega⟩ + ∑ j : Fin 64, f ⟨64 * 1 + j.val, by omega⟩ := by
  rw [show (∑ k, f k) = ∑ k : Fin (64 + 64), f k from rfl, Fin.sum_univ_add]
  congr 1

/-- … and where only one window's rows count, the sum over that window. -/
theorem sum_window (f : Fin 128 → EReal) (u : Fin 2) (h : ∀ k : Fin 128, k.val / 64 ≠ u.val → f k = 0) :
    ∑ k, f k = ∑ j : Fin 64, f ⟨64 * u.val + j.val, by omega⟩ := by
  rw [sum_pair]
  match u, h with
  | 0, h =>
    rw [Finset.sum_eq_zero (s := Finset.univ) (f := fun j : Fin 64 => f ⟨64 * 1 + j.val, by omega⟩)
      fun j _ => h _ (by simp), add_zero]
    rfl
  | 1, h =>
    rw [Finset.sum_eq_zero (s := Finset.univ) (f := fun j : Fin 64 => f ⟨64 * 0 + j.val, by omega⟩)
      fun j _ => h _ (by simp; omega), zero_add]
    rfl

section Window

variable (Q : FVec Ideal S1024x2304 .f32) (gq bq gk bk : Vec Ideal S1x64 .f32)

/-- The projected numbers of the window `u` of the pair `p`. -/
def pairWin (p : Fin 8) (u : Fin 2) (n : Fin 64) (j : Fin 2304) : EReal :=
  Q (ix2 ⟨128 * p.val + (64 * u.val + n.val), by omega⟩ j)

/-- The products of queries and keys of one window of a pair. -/
def pairDot (p : Fin 8) (u : Fin 2) (h : Fin 12) (n j : Fin 64) : EReal :=
  dotAt (pairWin Q p u) (fun e => gq (ix2 0 e)) (fun e => bq (ix2 0 e)) (fun e => gk (ix2 0 e))
    (fun e => bk (ix2 0 e)) h n j

theorem pairScores_at (p : Fin 8) (u : Fin 2) (h : Fin 12) (n j : Fin 64) :
    pairScores (pairRows (qHead Q gq bq h) p) (pairRows (kHead Q gk bk h) p)
        (ix2 ⟨64 * u.val + n.val, by omega⟩ ⟨64 * u.val + j.val, by omega⟩)
      = pairDot Q gq bq gk bk p u h n j * Ideal.ofBits .f32 0x3E000000#32 := by
  pointwise [pairScores, prods_at, pairRows_at, qHead_at, kHead_at]
  rfl

theorem blockThr_at (p : Fin 8) (u : Fin 2) (h : Fin 12) (n : Fin 64) :
    blockThr Q gq bq gk bk (ix2 ⟨64 * u.val + n.val, by omega⟩ ⟨8 * h.val + p.val, by omega⟩)
      = rowMax (dropN (fun j => pairDot Q gq bq gk bk p u h n j) 18) * Ideal.ofBits .f32 0x3E000000#32
        - Ideal.ofBits .f32 0x37FBA882#32 := by
  rw [blockThr, thresholds_at]
  have e1 : (⟨(8 * h.val + p.val) / 8, by omega⟩ : Fin 12) = h := Fin.ext (by dsimp only; omega)
  have e2 : (⟨(8 * h.val + p.val) % 8, by omega⟩ : Fin 8) = p := Fin.ext (by dsimp only; omega)
  simp only [packed_at, prods_at, pairRows_at, qHead_at, kHead_at, e1, e2]
  congr 4
  funext j
  exact Finset.sum_congr rfl fun d _ => mul_comm _ _

theorem part_at (h : Fin 12) (p : Fin 8) (u : Fin 2) (n d : Fin 64) :
    part Q gq bq gk bk h p (ix2 ⟨64 * u.val + n.val, by omega⟩ d)
      = kernelRow (fun j => pairDot Q gq bq gk bk p u h n j) (valueAt (pairWin Q p u) h d)
          (Ideal.ofBits .f32 0x3E000000#32) (Ideal.ofBits .f32 0x37FBA882#32) := by
  have hu : (64 * u.val + n.val) / 64 = u.val := by omega
  rw [part, normalised_at, weighted_at, weighted_at]
  simp only [valuesOnes_at, weights_at, blockThr_at, hu]
  rw [sum_window _ u (fun k hk => by rw [if_neg (fun hh => hk hh.1.symm), zero_mul]),
    sum_window _ u (fun k hk => by rw [if_neg (fun hh => hk hh.1.symm), zero_mul])]
  have hj : ∀ j : Fin 64, (64 * u.val + j.val) / 64 = u.val := fun j => by omega
  simp only [hj, true_and, pairScores_at, d.isLt, dif_pos, lt_irrefl, dif_neg, not_false_iff, mul_one,
    headCols_at]
  unfold kernelRow valueAt pairWin
  have e : (⟨64 * (24 + h.val) + d.val, by omega⟩ : Fin 2304) = ⟨1536 + (64 * h.val + d.val), by omega⟩ :=
    Fin.ext (by dsimp only; omega)
  simp only [e]

theorem column_at (h : Fin 12) (p : Fin 8) (r : Fin 128) (d : Fin 64) :
    column Q gq bq gk bk h (ix2 ⟨128 * p.val + r.val, by omega⟩ d) = part Q gq bq gk bk h p (ix2 r d) :=
  concatenate_ofFn_apply (t := S1024x64) (s₁ := S128x64) 0 (part Q gq bq gk bk h)
    (concatenates_pairs _) rfl 128 rfl (ix2 ⟨128 * p.val + r.val, by omega⟩ d) p
    (by show (128 * p.val + r.val) / 128 = p.val; omega) (ix2 r d)
    (by show r.val = (128 * p.val + r.val) % 128; omega)
    (by intro b hb; match b with
      | 0 => exact absurd rfl hb
      | 1 => rfl)

theorem heads_at (h : Fin 12) (r : Fin 1024) (d : Fin 64) :
    heads Q gq bq gk bk (ix2 r ⟨64 * h.val + d.val, by omega⟩) = column Q gq bq gk bk h (ix2 r d) :=
  concatenate_ofFn_apply (t := S1024x768) (s₁ := S1024x64) 1 (column Q gq bq gk bk)
    (concatenates_heads _) rfl 64 rfl (ix2 r ⟨64 * h.val + d.val, by omega⟩) h
    (by show (64 * h.val + d.val) / 64 = h.val; omega) (ix2 r d)
    (by show d.val = (64 * h.val + d.val) % 64; omega)
    (by intro b hb; match b with
      | 0 => rfl
      | 1 => exact absurd rfl hb)

end Window

theorem qkv_at (x0 : Vec Ideal S16x64x768 .bf16) (x1 : Vec Ideal S768x2304 .bf16) (x2 : Vec Ideal S1x2304 .f32)
    (w : Fin 16) (n : Fin 64) (j : Fin 2304) :
    k0_pay2 x0 x1 x2 (ix2 ⟨64 * w.val + n.val, by omega⟩ j)
      = ∑ e : Fin 768, x0 (ix3 w n e) * x1 (ix2 e j) + x2 (ix2 0 j) := by
  pointwise [k0_pay2]

theorem proj_at (o : FVec Ideal S1024x768 .f32) (x7 : Vec Ideal S768x768 .bf16) (x8 : Vec Ideal S1x768 .f32)
    (w : Fin 16) (n : Fin 64) (j : Fin 768) :
    k0_pay1 o x7 x8 (ix3 w n j)
      = ∑ e : Fin 768, o (ix2 ⟨64 * w.val + n.val, by omega⟩ e) * x7 (ix2 e j) + x8 (ix2 0 j) := by
  pointwise [k0_pay1]
  simp only [mul_comm w.val 64]

/-- The projected numbers of the window `w` of a block. -/
def blockWin (x0 : Vec Ideal S16x64x768 .bf16) (x1 : Vec Ideal S768x2304 .bf16) (x2 : Vec Ideal S1x2304 .f32)
    (w : Fin 16) (n : Fin 64) (j : Fin 2304) : EReal :=
  ∑ e : Fin 768, x0 (ix3 w n e) * x1 (ix2 e j) + x2 (ix2 0 j)

/-- The attention of one window, head by head, with the kernel's selection. -/
def kernelAttn (f : Fin 64 → Fin 2304 → EReal) (gq bq gk bk : Fin 64 → EReal) (n : Fin 64) (e : Fin 768) :
    EReal :=
  kernelRow (fun j => dotAt f gq bq gk bk ⟨e.val / 64, by omega⟩ n j)
    (valueAt f ⟨e.val / 64, by omega⟩ ⟨e.val % 64, by omega⟩)
    (Ideal.ofBits .f32 0x3E000000#32) (Ideal.ofBits .f32 0x37FBA882#32)

/-- The block a grid point writes, at an index. -/
theorem outBlock_at (x0 : Vec Ideal S16x64x768 .bf16) (x1 : Vec Ideal S768x2304 .bf16) (x2 : Vec Ideal S1x2304 .f32)
    (x3 x4 x5 x6 : Vec Ideal S1x64 .f32) (x7 : Vec Ideal S768x768 .bf16) (x8 : Vec Ideal S1x768 .f32)
    (w : Fin 16) (n : Fin 64) (j : Fin 768) :
    outBlock x0 x1 x2 x3 x4 x5 x6 x7 x8 (ix3 w n j)
      = ∑ e : Fin 768, kernelAttn (blockWin x0 x1 x2 w) (fun e => x3 (ix2 0 e)) (fun e => x4 (ix2 0 e))
          (fun e => x5 (ix2 0 e)) (fun e => x6 (ix2 0 e)) n e * x7 (ix2 e j) + x8 (ix2 0 j) := by
  rw [outBlock, proj_at]
  congr 1
  refine Finset.sum_congr rfl fun e _ => congrArg (· * x7 (ix2 e j)) ?_
  have he : e = ⟨64 * (e.val / 64) + e.val % 64, by omega⟩ := Fin.ext (Nat.div_add_mod _ _).symm
  have hr : (⟨64 * w.val + n.val, by omega⟩ : Fin 1024)
      = ⟨128 * (w.val / 2) + (64 * (w.val % 2) + n.val), by omega⟩ := Fin.ext (by dsimp only; omega)
  have hf : pairWin (k0_pay2 x0 x1 x2) ⟨w.val / 2, by omega⟩ ⟨w.val % 2, by omega⟩ = blockWin x0 x1 x2 w := by
    funext n j
    have hr : (⟨128 * (w.val / 2) + (64 * (w.val % 2) + n.val), by omega⟩ : Fin 1024)
      = ⟨64 * w.val + n.val, by omega⟩ := Fin.ext (by dsimp only; omega)
    rw [pairWin, hr, qkv_at]
    rfl
  have h1 := heads_at (k0_pay2 x0 x1 x2) x3 x4 x5 x6 ⟨e.val / 64, by omega⟩ ⟨64 * w.val + n.val, by omega⟩
    ⟨e.val % 64, by omega⟩
  have h2 := column_at (k0_pay2 x0 x1 x2) x3 x4 x5 x6 ⟨e.val / 64, by omega⟩ ⟨w.val / 2, by omega⟩
    ⟨64 * (w.val % 2) + n.val, by omega⟩ ⟨e.val % 64, by omega⟩
  have h3 := part_at (k0_pay2 x0 x1 x2) x3 x4 x5 x6 ⟨e.val / 64, by omega⟩ ⟨w.val / 2, by omega⟩
    ⟨w.val % 2, by omega⟩ n ⟨e.val % 64, by omega⟩
  rw [← he] at h1
  rw [h1, hr, h2, h3]
  unfold pairDot kernelAttn
  rw [hf]

end Cert.KernelIdeal.Gen
-- ==== Proof.KArr.lean ====
/-
  The array the kernel leaves: the grid points' blocks put together, as a function of the arguments.
-/
module

public import proofs.«01_k».proof.Proof.KRead
public import proofs.«01_k».proof.Proof.Gen.KernelIdeal.Value
public import Idealize.ShloMosaic.Lib.Pipeline.ValueKit
public import Idealize.ShloMosaic.Lib.StableHlo.ReadAt
public import Idealize.ShloMosaic.Lib.Claim

@[expose] public section

set_option maxRecDepth 16384

noncomputable section

namespace Cert.KernelIdeal.Gen

open Idealize.ShloMosaic Idealize.ShloMosaic.TcCoe Idealize.SL.Sem Cert.KernelIdeal Cert.Attention
open Idealize.ShloMosaic.StableHlo

/-- The projected numbers of window `w`, from the arguments. -/
def features (x : Vec Ideal S512x64x768 .f32) (W : Vec Ideal S2304x768 .f32) (b : Vec Ideal S2304 .f32)
    (w : Fin 512) (n : Fin 64) (j : Fin 2304) : EReal :=
  ∑ e : Fin 768, x (ix3 w n e) * W (ix2 j e) + b (ix1 j)

/-- The kernel's result, from the arguments. -/
def kernelOut (x : Vec Ideal S512x64x768 .f32) (W : Vec Ideal S2304x768 .f32) (b : Vec Ideal S2304 .f32)
    (gq bq gk bk : Vec Ideal S64 .f32) (P : Vec Ideal S768x768 .f32) (p : Vec Ideal S768 .f32) :
    Vec Ideal S512x64x768 .f32 := fun i =>
  ∑ e : Fin 768, kernelAttn (features x W b (i 0)) (fun d => gq (ix1 d)) (fun d => bq (ix1 d))
    (fun d => gk (ix1 d)) (fun d => bk (ix1 d)) (i 1) e * P (ix2 (i 2) e) + p (ix1 (i 2))

section Entry

variable (m : (ℓ : Loc nD τ sig) → Buf (Elt Ideal) ℓ) (c : Dev nD)

theorem V_x (i : S512x64x768.Idx) :
    V m c main_call0_v10 i = m ((c : Thread nD τ).loc main_arg0) i := by
  unfold V
  after_reads_at

theorem V_wqkv (e : Fin 768) (j : Fin 2304) :
    V m c main_call0_v1 (ix2 e j) = m ((c : Thread nD τ).loc main_arg1) (ix2 j e) := by
  unfold V
  after_reads_at

theorem V_wproj (e j : Fin 768) :
    V m c main_call0_v3 (ix2 e j) = m ((c : Thread nD τ).loc main_arg7) (ix2 j e) := by
  unfold V
  after_reads_at

theorem V_bqkv (j : Fin 2304) :
    V m c main_call0_v4 (ix2 0 j) = m ((c : Thread nD τ).loc main_arg2) (ix1 j) := by
  unfold V
  after_reads_at

theorem V_bproj (j : Fin 768) :
    V m c main_call0_v5 (ix2 0 j) = m ((c : Thread nD τ).loc main_arg8) (ix1 j) := by
  unfold V
  after_reads_at

theorem V_gq (j : Fin 64) :
    V m c main_call0_v6 (ix2 0 j) = m ((c : Thread nD τ).loc main_arg3) (ix1 j) := by
  unfold V
  after_reads_at

theorem V_bq (j : Fin 64) :
    V m c main_call0_v7 (ix2 0 j) = m ((c : Thread nD τ).loc main_arg4) (ix1 j) := by
  unfold V
  after_reads_at

theorem V_gk (j : Fin 64) :
    V m c main_call0_v8 (ix2 0 j) = m ((c : Thread nD τ).loc main_arg5) (ix1 j) := by
  unfold V
  after_reads_at

theorem V_bk (j : Fin 64) :
    V m c main_call0_v9 (ix2 0 j) = m ((c : Thread nD τ).loc main_arg6) (ix1 j) := by
  unfold V
  after_reads_at

end Entry

/-- A block index is its three coordinates. -/
theorem ix3_self (y : S16x64x768.Idx) : y = ix3 (y 0) (y 1) (y 2) := by
  funext a
  match a with
  | 0 => rfl
  | 1 => rfl
  | 2 => rfl

/-- Indices of two or three coordinates with the same numbers. -/
theorem ext2 {p q : Nat} (z : (⟨2, ![p, q]⟩ : Shape).Idx) (a : Fin p) (b : Fin q) (h0 : (z 0).val = a.val)
    (h1 : (z 1).val = b.val) : z = ix2 a b := by
  funext k
  match k with
  | 0 => exact Fin.ext h0
  | 1 => exact Fin.ext h1

theorem ext3 {p q r : Nat} (z : (⟨3, ![p, q, r]⟩ : Shape).Idx) (a : Fin p) (b : Fin q) (d : Fin r)
    (h0 : (z 0).val = a.val) (h1 : (z 1).val = b.val) (h2 : (z 2).val = d.val) : z = ix3 a b d := by
  funext k
  match k with
  | 0 => exact Fin.ext h0
  | 1 => exact Fin.ext h1
  | 2 => exact Fin.ext h2

/-! ## Where each window's block lies -/

/-- The block index of a window that moves with the grid point. -/
theorem index_x : ∀ (t : Fin cfg0.N) (a : Fin 3), win0_0.index t a = (![t.val, 0, 0] : Fin 3 → Nat) a := by
  decide +kernel

theorem index_out : ∀ (t : Fin cfg0.N) (a : Fin 3), win0_9.index t a = (![t.val, 0, 0] : Fin 3 → Nat) a := by
  decide +kernel

/-- The other windows stand still. -/
theorem index_rest : ∀ (t : Fin cfg0.N) (a : Fin 2),
    win0_1.index t a = 0 ∧ win0_2.index t a = 0 ∧ win0_3.index t a = 0 ∧ win0_4.index t a = 0
      ∧ win0_5.index t a = 0 ∧ win0_6.index t a = 0 ∧ win0_7.index t a = 0 ∧ win0_8.index t a = 0 := by
  decide +kernel

/-- The window of the whole array that is window `w` of point `t`'s block. -/
def winOf (t : Fin cfg0.N) (w : Fin 16) : Fin 512 := ⟨16 * t.val + w.val, by
  have h : t.val < 32 := t.isLt
  omega⟩

theorem emb_out (t : Fin cfg0.N) (w : Fin 16) (n : Fin 64) (j : Fin 768) :
    (win0_9.blk t).view.emb (ix3 w n j) = (ix3 (winOf t w) n j : S512x64x768.Idx) := by
  have h0 := index_out t 0
  have h1 := index_out t 1
  have h2 := index_out t 2
  exact ext3 _ _ _ _ (by blk_simp; rw [h0]; simp [winOf]; omega) (by blk_simp; rw [h1]; simp)
    (by blk_simp; rw [h2]; simp)

section Blocks

variable (m : (ℓ : Loc nD τ sig) → Buf (Elt Ideal) ℓ) (c : Dev nD) (t : Fin cfg0.N)

theorem blk_x (w : Fin 16) (n : Fin 64) (e : Fin 768) :
    iblk m c 0 t (ix3 w n e) = m ((c : Thread nD τ).loc main_arg0) (ix3 (winOf t w) n e) := by
  have h0 := index_x t 0
  have h1 := index_x t 1
  have h2 := index_x t 2
  have he : (win0_0.blk t).view.emb (ix3 w n e) = (ix3 (winOf t w) n e : S512x64x768.Idx) :=
    ext3 _ _ _ _ (by blk_simp; rw [h0]; simp [winOf]; omega) (by blk_simp; rw [h1]; simp)
      (by blk_simp; rw [h2]; simp)
  blk_simp [iblk]
  rw [V_x, he]

theorem blk_wqkv (e : Fin 768) (j : Fin 2304) :
    iblk m c 1 t (ix2 e j) = m ((c : Thread nD τ).loc main_arg1) (ix2 j e) := by
  have he : (win0_1.blk t).view.emb (ix2 e j) = (ix2 e j : S768x2304.Idx) :=
    ext2 _ _ _ (by blk_simp; rw [(index_rest t 0).1]; simp) (by blk_simp; rw [(index_rest t 1).1]; simp)
  blk_simp [iblk]
  rw [he, V_wqkv]

theorem blk_bqkv (j : Fin 2304) :
    iblk m c 2 t (ix2 0 j) = m ((c : Thread nD τ).loc main_arg2) (ix1 j) := by
  have he : (win0_2.blk t).view.emb (ix2 0 j) = (ix2 0 j : S1x2304.Idx) :=
    ext2 _ _ _ (by blk_simp; rw [(index_rest t 0).2.1]; simp) (by blk_simp; rw [(index_rest t 1).2.1]; simp)
  blk_simp [iblk]
  rw [he, V_bqkv]

theorem blk_gq (j : Fin 64) :
    iblk m c 3 t (ix2 0 j) = m ((c : Thread nD τ).loc main_arg3) (ix1 j) := by
  have he : (win0_3.blk t).view.emb (ix2 0 j) = (ix2 0 j : S1x64.Idx) :=
    ext2 _ _ _ (by blk_simp; rw [(index_rest t 0).2.2.1]; simp) (by blk_simp; rw [(index_rest t 1).2.2.1]; simp)
  blk_simp [iblk]
  rw [he, V_gq]

theorem blk_bq (j : Fin 64) :
    iblk m c 4 t (ix2 0 j) = m ((c : Thread nD τ).loc main_arg4) (ix1 j) := by
  have he : (win0_4.blk t).view.emb (ix2 0 j) = (ix2 0 j : S1x64.Idx) :=
    ext2 _ _ _ (by blk_simp; rw [(index_rest t 0).2.2.2.1]; simp) (by blk_simp; rw [(index_rest t 1).2.2.2.1]; simp)
  blk_simp [iblk]
  rw [he, V_bq]

theorem blk_gk (j : Fin 64) :
    iblk m c 5 t (ix2 0 j) = m ((c : Thread nD τ).loc main_arg5) (ix1 j) := by
  have he : (win0_5.blk t).view.emb (ix2 0 j) = (ix2 0 j : S1x64.Idx) :=
    ext2 _ _ _ (by blk_simp; rw [(index_rest t 0).2.2.2.2.1]; simp)
      (by blk_simp; rw [(index_rest t 1).2.2.2.2.1]; simp)
  blk_simp [iblk]
  rw [he, V_gk]

theorem blk_bk (j : Fin 64) :
    iblk m c 6 t (ix2 0 j) = m ((c : Thread nD τ).loc main_arg6) (ix1 j) := by
  have he : (win0_6.blk t).view.emb (ix2 0 j) = (ix2 0 j : S1x64.Idx) :=
    ext2 _ _ _ (by blk_simp; rw [(index_rest t 0).2.2.2.2.2.1]; simp)
      (by blk_simp; rw [(index_rest t 1).2.2.2.2.2.1]; simp)
  blk_simp [iblk]
  rw [he, V_bk]

theorem blk_wproj (e j : Fin 768) :
    iblk m c 7 t (ix2 e j) = m ((c : Thread nD τ).loc main_arg7) (ix2 j e) := by
  have he : (win0_7.blk t).view.emb (ix2 e j) = (ix2 e j : S768x768.Idx) :=
    ext2 _ _ _ (by blk_simp; rw [(index_rest t 0).2.2.2.2.2.2.1]; simp)
      (by blk_simp; rw [(index_rest t 1).2.2.2.2.2.2.1]; simp)
  blk_simp [iblk]
  rw [he, V_wproj]

theorem blk_bproj (j : Fin 768) :
    iblk m c 8 t (ix2 0 j) = m ((c : Thread nD τ).loc main_arg8) (ix1 j) := by
  have he : (win0_8.blk t).view.emb (ix2 0 j) = (ix2 0 j : S1x768.Idx) :=
    ext2 _ _ _ (by blk_simp; rw [(index_rest t 0).2.2.2.2.2.2.2]; simp)
      (by blk_simp; rw [(index_rest t 1).2.2.2.2.2.2.2]; simp)
  blk_simp [iblk]
  rw [he, V_bproj]

/-- The projected numbers of a window of a block are those of the whole array's window. -/
theorem blockWin_iblk (w : Fin 16) :
    blockWin (iblk m c 0 t) (iblk m c 1 t) (iblk m c 2 t) w
      = features (m ((c : Thread nD τ).loc main_arg0)) (m ((c : Thread nD τ).loc main_arg1))
          (m ((c : Thread nD τ).loc main_arg2)) (winOf t w) := by
  funext n j
  unfold blockWin features
  rw [blk_bqkv]
  congr 1
  exact Finset.sum_congr rfl fun e _ => by rw [blk_x, blk_wqkv]

end Blocks

/-- The array after the run. -/
theorem arr_eq (m : (ℓ : Loc nD τ sig) → Buf (Elt Ideal) ℓ) (c : Dev nD) :
    (dats m 0 c).arrAt 9 cfg0.N
      = kernelOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  refine (dats m 0 c).arrAt_eq_of_covers 9 _ (by decide +kernel) fun t hf y => ?_
  blk_simp
  rw [after0_9, outsAt0, out_eq]
  obtain ⟨w, n, j, rfl⟩ : ∃ (w : Fin 16) (n : Fin 64) (j : Fin 768), y = ix3 w n j :=
    ⟨y 0, y 1, y 2, ix3_self y⟩
  rw [outBlock_at, blockWin_iblk, blk_bproj]
  refine (congrArg₂ (· + ·) (Finset.sum_congr rfl fun e _ => ?_) rfl).trans
    (congrArg (kernelOut _ _ _ _ _ _ _ _ _) (emb_out t w n j).symm)
  rw [blk_wproj]
  simp only [blk_gq, blk_bq, blk_gk, blk_bk]
  rfl

end Cert.KernelIdeal.Gen
-- ==== Proof.Rank.lean ====
/-
  The ranking of a row of scores, and the first ranks an array's top-k returns.
-/
module

public import proofs.«01_k».proof.Proof.TopMath
public import Idealize.ShloMosaic.PureOps
public import Idealize.ShloMosaic.Lib.Pointwise
public import Idealize.ShloMosaic.Lib.SortFacts

@[expose] public section

noncomputable section

namespace Cert.Attention

open Idealize.ShloMosaic

/-- The positions of a row from its greatest entry down, equal entries in their order. -/
def rank (s : Fin 64 → EReal) : Fin 64 → Fin 64 :=
  sortedFrom fun k k' => FloatOps.cmpfTotal (F := Ideal) (φ := .f32) .gt (s k) (s k') == 1#1

theorem before_iff (x y : EReal) :
    (FloatOps.cmpfTotal (F := Ideal) (φ := .f32) .gt x y == 1#1) = true ↔ y < x := by
  rw [Ideal.cmpfTotal_def]
  by_cases h : y < x <;> simp [Ideal.cmp, CmpDirection.ordered, h]

theorem ranked (s : Fin 64 → EReal) : Ranked s (rank s) where
  inj := sortedFrom_injective _
  surj := sortedFrom_surjective _
  anti i j hij := by
    have h := sortedFrom_noInversion
      (fun k k' => FloatOps.cmpfTotal (F := Ideal) (φ := .f32) .gt (s k) (s k') == 1#1)
      (fun k k' => FloatOps.cmpfTotal (F := Ideal) (φ := .f32) .gt (s k) (s k') == 1#1)
      (fun a b h => by
        rw [before_iff] at h
        rw [Bool.eq_false_iff, ne_eq, before_iff]
        exact h.not_gt)
      (fun a b h => h)
      (fun a b c h1 h2 => by
        rw [Bool.eq_false_iff, ne_eq, before_iff] at h1 h2 ⊢
        exact not_lt.2 ((not_lt.1 h1).trans (not_lt.1 h2)))
      i j hij
    rw [Bool.eq_false_iff, ne_eq, before_iff] at h
    exact not_lt.1 h

/-- The scores of all windows, heads and rows. -/
abbrev Scores : Shape := ⟨4, ![512, 12, 64, 64]⟩

/-- Their first `K` ranks. -/
abbrev Tops (K : Nat) : Shape := ⟨4, ![512, 12, 64, K]⟩

theorem along_last (w : Fin 512) (h : Fin 12) (n j q : Fin 64) :
    Shape.Idx.along (s := Scores) (ix4 w h n j) 3 q = ix4 w h n q := by
  funext a
  match a with
  | 0 => rfl
  | 1 => rfl
  | 2 => rfl
  | 3 => rfl

variable {K : Nat} (hK : K ≤ 64) (x : Vec Ideal Scores .f32) (hs : Scores.Slices (fun _ => 0) (Tops K))

/-- The values a top-k returns are the scores at the first ranks. -/
theorem topK_value (w : Fin 512) (h : Fin 12) (n : Fin 64) (k : Fin K) :
    (Host.topK (Tops K) 3 (FloatOps.cmpfTotal (F := Ideal) (φ := .f32) .gt) x hs).1 (ix4 w h n k)
      = x (ix4 w h n (rank (fun j => x (ix4 w h n j)) ⟨k.val, by omega⟩)) := by
  unfold Host.topK Host.sort2
  pointwise
  rw [along_last]
  simp only [along_last]
  rfl

/-- The words it returns are their positions. -/
theorem topK_word (w : Fin 512) (h : Fin 12) (n : Fin 64) (k : Fin K) :
    (Host.topK (Tops K) 3 (FloatOps.cmpfTotal (F := Ideal) (φ := .f32) .gt) x hs).2 (ix4 w h n k)
      = BitVec.ofNat 32 (rank (fun j => x (ix4 w h n j)) ⟨k.val, by omega⟩).val := by
  unfold Host.topK Host.sort2
  pointwise
  rw [along_last]
  simp only [along_last]
  rfl

/-- One entry per window, head and row. -/
abbrev Rows : Shape := ⟨3, ![512, 12, 64]⟩

/-- A reduction along the last axis, at a row. -/
theorem reduce_last {α : Type} {u : Shape} (f : α → α → α) [Std.Commutative f] [Std.Associative f]
    (y : (Tops K).Idx → α) (init : u.Idx → α) (h' : (Tops K).ReducesTo [3] Rows) (hr : (Tops K).Reduces [3] Rows)
    (hu : 0 < u.numel) (w : Fin 512) (h : Fin 12) (n : Fin 64) :
    Host.reduce f y init h' hu (ix3 w h n)
      = (Finset.univ : Finset (Fin K)).fold f (init (Shape.Idx.first hu)) fun k => y (ix4 w h n k) := by
  rw [Host.reduce_eq_fold_single f y init h' hr hu]
  have hl : ∀ k : Fin K, hr.lift (ix3 w h n) k = ix4 w h n k := by
    intro k
    funext c
    apply Fin.ext
    refine (Shape.Reduces.lift_val hr (ix3 w h n) k c).trans ?_
    unfold Shape.Reduces.liftVal
    match c with
    | 0 => rfl
    | 1 => rfl
    | 2 => rfl
    | 3 => rfl
  exact congrArg (fun g => Finset.fold f (init (Shape.Idx.first hu)) g Finset.univ)
    (funext fun k => congrArg y (hl k))

end Cert.Attention
-- ==== Proof.RSoft.lean ====
/-
  The reference's softmax and projection, as functions of whole arrays, each read at one index.
-/
module

public import proofs.«01_k».proof.Proof.Rank
public import proofs.«01_k».proof.Proof.Gen.ReferenceIdeal.Run
public import Idealize.ShloMosaic.Lib.Pointwise

@[expose] public section

set_option maxRecDepth 16384

noncomputable section

namespace Cert.ReferenceIdeal.Value

open Idealize.ShloMosaic Idealize.ShloMosaic.TcCoe Idealize.SL.Sem Cert.ReferenceIdeal Cert.Attention
open Cert.ReferenceIdeal.Gen Idealize.ShloMosaic.StableHlo

/-- The greatest entry of each row. -/
def rowsMax (z : FVec Ideal S512x12x64x64 .f32) : FVec Ideal S512x12x64 .f32 :=
  Host.reduce FloatOps.maximumf z (constant S_ .f32 0xFF800000#32) reducesTo_S512x12x64x64_S512x12x64_d3 h_S_

theorem rowsMax_at (z : FVec Ideal S512x12x64x64 .f32) (w : Fin 512) (h : Fin 12) (n : Fin 64) :
    rowsMax z (ix3 w h n) = rowMax fun i => z (ix4 w h n i) := by
  have h0 := reduce_last (K := 64) (FloatOps.maximumf (F := Ideal) (φ := .f32)) z
    (constant (F := Ideal) S_ .f32 0xFF800000#32) reducesTo_S512x12x64x64_S512x12x64_d3 (by decide) h_S_ w h n
  have hb : constant (F := Ideal) S_ .f32 0xFF800000#32 (Shape.Idx.first h_S_) = (⊥ : EReal) := bits_neg_inf
  rw [hb] at h0
  exact h0

/-- The exponentials of an array's rows, a number per row taken off. -/
def expRows (z : FVec Ideal S512x12x64x64 .f32) (t : FVec Ideal S512x12x64 .f32) : FVec Ideal S512x12x64x64 .f32 :=
  Host.exp (subf z (broadcastInDim S512x12x64x64 ![0, 1, 2, 3] bcast_S512x12x64x1_S512x12x64x64_0_1_2_3
    (broadcastInDim S512x12x64x1 ![0, 1, 2] bcast_S512x12x64_S512x12x64x1_0_1_2
      (maximumf (broadcastInDim S512x12x64 ![] bcast_S_S512x12x64 (constant S_ .f32 0xFF800000#32)) t))))

theorem expRows_at (z : FVec Ideal S512x12x64x64 .f32) (t : FVec Ideal S512x12x64 .f32)
    (w : Fin 512) (h : Fin 12) (n j : Fin 64) :
    expRows z t (ix4 w h n j) = Ideal.exp (z (ix4 w h n j) - t (ix3 w h n)) := by
  unfold expRows
  pointwise
  rw [bits_neg_inf, max_eq_right bot_le]

/-- The attention weights of rows of exponentials, applied to the values. -/
def weightedRows (z v : FVec Ideal S512x12x64x64 .f32) : FVec Ideal S512x12x64x64 .f32 :=
  Host.dotGeneral dot_S512x12x64x64_S512x12x64x64_S512x12x64x64_3_2_2_3_01_01 none
    (Host.divf z (broadcastInDim S512x12x64x64 ![0, 1, 2, 3] bcast_S512x12x64x1_S512x12x64x64_0_1_2_3
      (broadcastInDim S512x12x64x1 ![0, 1, 2] bcast_S512x12x64_S512x12x64x1_0_1_2
        (Host.reduceAdd z (constant S_ .f32 0x00000000#32) reducesTo_S512x12x64x64_S512x12x64_d3 h_S_)))) v

theorem weightedRows_at (z v : FVec Ideal S512x12x64x64 .f32) (w : Fin 512) (h : Fin 12) (n d : Fin 64) :
    weightedRows z v (ix4 w h n d)
      = ∑ j : Fin 64, Ideal.div (z (ix4 w h n j)) (∑ k : Fin 64, z (ix4 w h n k)) * v (ix4 w h j d) := by
  unfold weightedRows
  pointwise

/-- The heads set side by side, projected. -/
def projected (o : FVec Ideal S512x12x64x64 .f32) (P : FVec Ideal S768x768 .f32) (p : FVec Ideal S768 .f32) :
    FVec Ideal S512x64x768 .f32 :=
  addf (Host.dotGeneral dot_S512x64x768_S768x768_S512x64x768_2_0_01_1_n_n none
      (shapeCast S512x64x768 (transpose S512x64x12x64 [0, 2, 1, 3] o transposes_S512x12x64x64_S512x64x12x64_0_2_1_3)
        shapeCasts_S512x64x12x64_S512x64x768)
      (transpose S768x768 [1, 0] P transposes_S768x768_S768x768_1_0))
    (broadcastInDim S512x64x768 ![0, 1, 2] bcast_S1x1x768_S512x64x768_0_1_2
      (broadcastInDim S1x1x768 ![2] bcast_S768_S1x1x768_2 p))

theorem projected_at (o : FVec Ideal S512x12x64x64 .f32) (P : FVec Ideal S768x768 .f32) (p : FVec Ideal S768 .f32)
    (w : Fin 512) (n : Fin 64) (j : Fin 768) :
    projected o P p (ix3 w n j)
      = ∑ e : Fin 768, o (ix4 w ⟨e.val / 64, by omega⟩ n ⟨e.val % 64, by omega⟩) * P (ix2 j e) + p (ix1 j) := by
  unfold projected
  pointwise

end Cert.ReferenceIdeal.Value
-- ==== Proof.RRead.lean ====
/-
  The reference's stages, each read at one index over the extended reals.
-/
module

public import proofs.«01_k».proof.Proof.KArr
public import proofs.«01_k».proof.Proof.Rank
public import proofs.«01_k».proof.Proof.RSoft
public import proofs.«01_k».proof.Proof.Gen.ReferenceIdeal.Run
public import Idealize.ShloMosaic.Lib.Pointwise
public import Idealize.ShloMosaic.Lib.SortFacts
public import Idealize.ShloMosaic.Lib.ScatterToDense.RefScatter
public import Idealize.ShloMosaic.Lib.Routing.OpsPair

@[expose] public section

set_option maxRecDepth 16384

noncomputable section

namespace Cert.ReferenceIdeal.Value

open Idealize.ShloMosaic Idealize.ShloMosaic.TcCoe Idealize.SL.Sem Cert.ReferenceIdeal Cert.Attention
open Cert.ReferenceIdeal.Gen Idealize.ShloMosaic.StableHlo
open Cert.KernelIdeal.Gen (features)

variable (V0 : Valuation τ sig (Elt Ideal))

/-- The projected numbers of a window, from the arguments. -/
abbrev feat : Fin 512 → Fin 64 → Fin 2304 → EReal :=
  features (V0 (Proc.devRef .tc main_arg0)) (V0 (Proc.devRef .tc main_arg1)) (V0 (Proc.devRef .tc main_arg2))

theorem v6_at (p : Fin 3) (w : Fin 512) (h : Fin 12) (n d : Fin 64) :
    (res_main_v6 V0 : Vec Ideal S3x512x12x64x64 .f32) (ix5 p w h n d)
      = feat V0 w n ⟨768 * p.val + (64 * h.val + d.val), by omega⟩ := by
  have hj : (⟨768 * p.val + (64 * h.val + d.val), by omega⟩ : Fin 2304)
      = ⟨p.val * 768 + h.val * 64 + d.val, by omega⟩ := Fin.ext (by dsimp only; omega)
  rw [hj]
  unfold res_main_v6
  clean_types
  pointwise
  rfl

theorem v8_at (w : Fin 512) (h : Fin 12) (n d : Fin 64) :
    (res_main_v8 V0 : Vec Ideal S512x12x64x64 .f32) (ix4 w h n d)
      = feat V0 w n ⟨64 * h.val + d.val, by omega⟩ := by
  unfold res_main_v8
  clean_types
  pointwise [v6_at]

theorem v10_at (w : Fin 512) (h : Fin 12) (n d : Fin 64) :
    (res_main_v10 V0 : Vec Ideal S512x12x64x64 .f32) (ix4 w h n d)
      = feat V0 w n ⟨768 + (64 * h.val + d.val), by omega⟩ := by
  unfold res_main_v10
  clean_types
  pointwise [v6_at]

/-- The value rows: the last third of the projected numbers. -/
theorem values_at (w : Fin 512) (h : Fin 12) (n d : Fin 64) :
    (shapeCast S512x12x64x64 (extractStridedSlice S1x512x12x64x64 ![2, 0, 0, 0, 0] (res_main_v6 V0)
        slices_S3x512x12x64x64_S1x512x12x64x64_2_0_0_0_0) shapeCasts_S1x512x12x64x64_S512x12x64x64
        : Vec Ideal S512x12x64x64 .f32) (ix4 w h n d)
      = valueAt (feat V0 w) h d n := by
  clean_types
  pointwise [v6_at]
  rfl

theorem v16_at (w : Fin 512) (h : Fin 12) (n : Fin 64) (u : Fin 1) :
    (res_main_v16 V0 : Vec Ideal S512x12x64x1 .f32) (ix4 w h n u)
      = Ideal.div (∑ d : Fin 64, feat V0 w n ⟨64 * h.val + d.val, by omega⟩) (Ideal.ofBits .f32 0x42800000#32) := by
  unfold res_main_v16
  clean_types
  pointwise [v8_at]

theorem v40_at (w : Fin 512) (h : Fin 12) (n : Fin 64) (u : Fin 1) :
    (res_main_v40 V0 : Vec Ideal S512x12x64x1 .f32) (ix4 w h n u)
      = Ideal.div (∑ d : Fin 64, feat V0 w n ⟨768 + (64 * h.val + d.val), by omega⟩)
          (Ideal.ofBits .f32 0x42800000#32) := by
  unfold res_main_v40
  clean_types
  pointwise [v10_at]

theorem v18_at (w : Fin 512) (h : Fin 12) (n d : Fin 64) :
    (res_main_v18 V0 : Vec Ideal S512x12x64x64 .f32) (ix4 w h n d)
      = feat V0 w n ⟨64 * h.val + d.val, by omega⟩
        - Ideal.div (∑ d : Fin 64, feat V0 w n ⟨64 * h.val + d.val, by omega⟩) (Ideal.ofBits .f32 0x42800000#32) := by
  unfold res_main_v18
  clean_types
  pointwise [v8_at, v16_at]

theorem v42_at (w : Fin 512) (h : Fin 12) (n d : Fin 64) :
    (res_main_v42 V0 : Vec Ideal S512x12x64x64 .f32) (ix4 w h n d)
      = feat V0 w n ⟨768 + (64 * h.val + d.val), by omega⟩
        - Ideal.div (∑ d : Fin 64, feat V0 w n ⟨768 + (64 * h.val + d.val), by omega⟩)
            (Ideal.ofBits .f32 0x42800000#32) := by
  unfold res_main_v42
  clean_types
  pointwise [v10_at, v40_at]

/-- The scores of a row, before the scaling. -/
abbrev rawScore (w : Fin 512) (h : Fin 12) (n j : Fin 64) : EReal :=
  dotAt (feat V0 w) (fun d => V0 (Proc.devRef .tc main_arg3) (ix1 d)) (fun d => V0 (Proc.devRef .tc main_arg4) (ix1 d))
    (fun d => V0 (Proc.devRef .tc main_arg5) (ix1 d)) (fun d => V0 (Proc.devRef .tc main_arg6) (ix1 d)) h n j

theorem v64_at (w : Fin 512) (h : Fin 12) (n j : Fin 64) :
    (res_main_v64 V0 : Vec Ideal S512x12x64x64 .f32) (ix4 w h n j)
      = rawScore V0 w h n j * Ideal.ofBits .f32 0x3E000000#32 := by
  unfold res_main_v64
  clean_types
  pointwise [v8_at, v10_at, v16_at, v18_at, v40_at, v42_at]
  rfl

/-- The scaled scores of a row. -/
abbrev score (w : Fin 512) (h : Fin 12) (n j : Fin 64) : EReal :=
  (res_main_v64 V0 : Vec Ideal S512x12x64x64 .f32) (ix4 w h n j)

/-- The number of a row among the rows of all windows and heads. -/
def rowOf (w : Fin 512) (h : Fin 12) (n : Fin 64) : Fin 393216 := ⟨(w.val * 12 + h.val) * 64 + n.val, by omega⟩

theorem v65_at (w : Fin 512) (h : Fin 12) (n : Fin 64) (k : Fin 19) :
    (res_main_v65 V0 : Vec Ideal S393216x19 .i32) (ix2 (rowOf w h n) k)
      = BitVec.ofNat 32 (rank (score V0 w h n) ⟨k.val, by omega⟩).val := by
  rw [← topK_word (K := 19) (by omega) (res_main_v64 V0) sliceFits_S512x12x64x64_S512x12x64x19 w h n k]
  unfold res_main_v65
  generalize Host.topK S512x12x64x19 3 (FloatOps.cmpfTotal .gt) (res_main_v64 V0) sliceFits_S512x12x64x64_S512x12x64x19 = T
  clean_types
  pointwise [rowOf]

theorem v67_at (r : Fin 393216) (u : Fin 1) :
    (res_main_v67 V0 : Vec Ideal S393216x1 .i32) (ix2 r u) = BitVec.ofNat 32 r.val := by
  unfold res_main_v67
  clean_types
  pointwise

/-- Where the reference marks an entry as kept: row and column. -/
def marks : IVec S393216x19x2 32 :=
  concatenate S393216x19x2 2 [⟨S393216x19x1, (broadcastInDim S393216x19x1 ![0, 1] bcast_S393216x19_S393216x19x1_0_1 (broadcastInDim S393216x19 ![0, 1] bcast_S393216x1_S393216x19_0_1 (select (cmpi .slt (res_main_v67 V0) (broadcastInDim S393216x1 ![] bcast_S_S393216x1 (constantI S_ 32 0#32))) (addi (res_main_v67 V0) (broadcastInDim S393216x1 ![] bcast_S_S393216x1 (constantI S_ 32 393216#32))) (res_main_v67 V0))))⟩, ⟨S393216x19x1, (broadcastInDim S393216x19x1 ![0, 1] bcast_S393216x19_S393216x19x1_0_1 (select (cmpi .slt (res_main_v65 V0) (broadcastInDim S393216x19 ![] bcast_S_S393216x19 (constantI S_ 32 0#32))) (addi (res_main_v65 V0) (broadcastInDim S393216x19 ![] bcast_S_S393216x19 (constantI S_ 32 64#32))) (res_main_v65 V0)))⟩] concatenates_S393216x19x1_S393216x19x1_S393216x19x2_d2

theorem marks_row (r : Fin 393216) (k : Fin 19) : marks V0 (ix3 r k (0 : Fin 2)) = BitVec.ofNat 32 r.val := by
  unfold marks
  clean_types
  pointwise [v67_at]
  exact Routing.wrap_of_lt _ _ (by rw [BitVec.toNat_ofNat]; omega)

theorem marks_col (w : Fin 512) (h : Fin 12) (n : Fin 64) (k : Fin 19) :
    marks V0 (ix3 (rowOf w h n) k (1 : Fin 2)) = BitVec.ofNat 32 (rank (score V0 w h n) ⟨k.val, by omega⟩).val := by
  unfold marks
  clean_types
  pointwise [v65_at]
  exact Routing.wrap_of_lt _ _ (by rw [BitVec.toNat_ofNat]; omega)

/-- The entries of a row among its first nineteen ranks. -/
def kept (s : Fin 64 → EReal) (j : Fin 64) : Prop := ∃ k : Fin 19, rank s ⟨k.val, by omega⟩ = j

instance (s : Fin 64 → EReal) : DecidablePred (kept s) := fun j => by unfold kept; infer_instance

theorem kept_rank (s : Fin 64 → EReal) (j : Fin 64) : kept s (rank s j) ↔ j.val ≤ 18 := by
  constructor
  · rintro ⟨k, hk⟩
    have h := congrArg Fin.val ((ranked s).inj hk)
    dsimp only at h
    omega
  · intro h
    exact ⟨⟨j.val, by omega⟩, rfl⟩

/-- A constant written wherever a word is the column. -/
theorem marked (word : ℕ → BitVec 32) (c fill : EReal) (col K : ℕ) :
    ScatterToDense.GS word (fun _ => c) fill col K = if ∃ k : Fin K, col = (word k.val).toNat then c else fill := by
  induction K with
  | zero => rw [ScatterToDense.GS_zero, if_neg]; rintro ⟨k, _⟩; exact k.elim0
  | succ K ih =>
    rw [ScatterToDense.GS_succ, ih]
    by_cases h : col = (word K).toNat
    · rw [if_pos h, if_pos ⟨Fin.last K, h⟩]
    · rw [if_neg h]
      refine if_congr ⟨fun ⟨k, hk⟩ => ⟨k.castSucc, hk⟩, fun ⟨k, hk⟩ => ?_⟩ rfl rfl
      have hne : k.val ≠ K := fun e => h (e ▸ hk)
      exact ⟨⟨k.val, by omega⟩, hk⟩

/-- The mask: nothing on the kept entries, minus infinity elsewhere. -/
theorem mask_at (w : Fin 512) (h : Fin 12) (n j : Fin 64) :
    Host.scatter scatter_S393216x64_S393216x19x2_S393216x19_n_01_01_2 (fun _ b => b)
        (broadcastInDim S393216x64 ![] bcast_S_S393216x64 (constant (F := Ideal) S_ .f32 0xFF800000#32)) (marks V0)
        (broadcastInDim S393216x19 ![] bcast_S_S393216x19 (constant (F := Ideal) S_ .f32 0x00000000#32))
        (ix2 (rowOf w h n) j)
      = if kept (score V0 w h n) j then 0 else ⊥ := by
  refine (ScatterToDense.scatter_eq_GS (T := 393216) (C := 64) (K := 19) _ rfl rfl rfl (by norm_num) (by norm_num) _ _ _
    (fun r k => marks V0 (ix3 r ⟨min k 18, by omega⟩ (1 : Fin 2))) (fun _ _ => 0)
    (fun i k => marks_row V0 i k) (fun i k => ?_) (fun i k => ?_) (rowOf w h n) j).trans ?_
  · have hk : (⟨min k.val 18, by omega⟩ : Fin 19) = k := Fin.ext (by dsimp only; omega)
    rw [hk]
    rfl
  · pointwise
  · rw [marked]
    refine if_congr ?_ rfl ?_
    · unfold kept
      refine exists_congr fun k => ?_
      have hk : (⟨min k.val 18, by omega⟩ : Fin 19) = k := Fin.ext (by dsimp only; omega)
      rw [hk, marks_col, BitVec.toNat_ofNat, Nat.mod_eq_of_lt (by omega), Fin.ext_iff, eq_comm]
    · pointwise
      exact bits_neg_inf

theorem v86_at (w : Fin 512) (h : Fin 12) (n j : Fin 64) :
    (res_main_v86 V0 : Vec Ideal S512x12x64x64 .f32) (ix4 w h n j)
      = score V0 w h n j + if kept (score V0 w h n) j then 0 else ⊥ := by
  rw [← mask_at]
  unfold res_main_v86
  rw [← marks]
  generalize Host.scatter scatter_S393216x64_S393216x19x2_S393216x19_n_01_01_2 (fun _ b => b)
        (broadcastInDim S393216x64 ![] bcast_S_S393216x64 (constant (F := Ideal) S_ .f32 0xFF800000#32)) (marks V0)
        (broadcastInDim S393216x19 ![] bcast_S_S393216x19 (constant (F := Ideal) S_ .f32 0x00000000#32)) = T
  clean_types
  pointwise [rowOf]
  exact congrArg (fun z => score V0 w h n j + T (ix2 z j)) (Fin.ext (by dsimp only; omega))

/-- The masked scores. -/
abbrev masked (w : Fin 512) (h : Fin 12) (n j : Fin 64) : EReal :=
  score V0 w h n j + if kept (score V0 w h n) j then 0 else ⊥

/-- The exponentials of a row, its greatest masked score taken off. -/
theorem v93_at (w : Fin 512) (h : Fin 12) (n j : Fin 64) :
    (res_main_v93 V0 : Vec Ideal S512x12x64x64 .f32) (ix4 w h n j)
      = Ideal.exp (masked V0 w h n j - rowMax (masked V0 w h n)) := by
  have e : res_main_v93 V0 = expRows (res_main_v86 V0) (rowsMax (res_main_v86 V0)) := rfl
  have hm : (fun i => (res_main_v86 V0 : Vec Ideal S512x12x64x64 .f32) (ix4 w h n i)) = masked V0 w h n :=
    funext fun i => v86_at V0 w h n i
  rw [e, expRows_at, rowsMax_at, hm, v86_at]

/-- The attention of one window, head by head. -/
def refAttn (w : Fin 512) (n : Fin 64) (e : Fin 768) : EReal :=
  referenceRow (score V0 w ⟨e.val / 64, by omega⟩ n)
    (valueAt (feat V0 w) ⟨e.val / 64, by omega⟩ ⟨e.val % 64, by omega⟩)
    (kept (score V0 w ⟨e.val / 64, by omega⟩ n))

/-- The reference's result, from the arguments. -/
def result : FVec Ideal S512x64x768 .f32 :=
  projected
    (weightedRows (res_main_v93 V0)
      (shapeCast S512x12x64x64 (extractStridedSlice S1x512x12x64x64 ![2, 0, 0, 0, 0] (res_main_v6 V0)
        slices_S3x512x12x64x64_S1x512x12x64x64_2_0_0_0_0) shapeCasts_S1x512x12x64x64_S512x12x64x64))
    (V0 (Proc.devRef .tc main_arg7)) (V0 (Proc.devRef .tc main_arg8))

theorem result_at (w : Fin 512) (n : Fin 64) (j : Fin 768) :
    result V0 (ix3 w n j)
      = ∑ e : Fin 768, refAttn V0 w n e * V0 (Proc.devRef .tc main_arg7) (ix2 j e)
        + V0 (Proc.devRef .tc main_arg8) (ix1 j) := by
  unfold result
  refine (projected_at _ _ _ w n j).trans ?_
  refine congrArg₂ (· + ·) (Finset.sum_congr rfl fun e _ => congrArg (· * _) ?_) rfl
  refine (weightedRows_at _ _ w _ n _).trans ?_
  unfold refAttn referenceRow
  refine Finset.sum_congr rfl fun i _ => congrArg₂ (· * ·) ?_ (values_at V0 w _ i _)
  rw [v93_at]
  simp only [v93_at]

end Cert.ReferenceIdeal.Value
-- ==== Proof.PRead.lean ====
/-
  The precondition, read at one row: the first nineteen ranked scores are finite above and distinct,
  and the twentieth lies well under the nineteenth.
-/
module

public import proofs.«01_k».proof.Pre_separated
public import proofs.«01_k».proof.Proof.RRead
public import Idealize.ShloMosaic.Lib.Exec

@[expose] public section

set_option maxRecDepth 16384

noncomputable section

namespace Cert.Pre_separated

open Idealize.ShloMosaic Idealize.ShloMosaic.StableHlo Cert.Attention Cert.Pre_separated.Facts

/-- The side conditions of the precondition's operations. -/
instance facts : Cert.Pre_separated.Facts := by constructor <;> decide

/-- Whether each row's first nineteen entries fall strictly. -/
def falling (v : FVec Ideal S512x12x64x20 .f32) : IVec S512x12x64x18 1 :=
  cmpf .ogt (extractStridedSlice S512x12x64x18 ![0, 0, 0, 0] v slices_S512x12x64x20_S512x12x64x18_0_0_0_0)
    (extractStridedSlice S512x12x64x18 ![0, 0, 0, 1] v slices_S512x12x64x20_S512x12x64x18_0_0_0_1)

/-- … of all of a row. -/
def allFalling (v : FVec Ideal S512x12x64x20 .f32) : IVec S512x12x64 1 :=
  Host.reduce IntOp.andi (falling v) (constantI S_ 1 1#1) reducesTo_S512x12x64x18_S512x12x64_d3 h_S_

/-- The row's verdict, from its twenty greatest scores. -/
def verdict (v : FVec Ideal S512x12x64x20 .f32) (all : IVec S512x12x64 1) : IVec S512x12x64 1 :=
  andi (andi
    (cmpf .olt (shapeCast S512x12x64 (extractStridedSlice S512x12x64x1 ![0, 0, 0, 0] v slices_S512x12x64x20_S512x12x64x1_0_0_0_0) shapeCasts_S512x12x64x1_S512x12x64)
      (broadcastInDim S512x12x64 ![] bcast_S_S512x12x64 (constant S_ .f32 0x7F800000#32)))
    all)
    (cmpf .ogt
      (subf (shapeCast S512x12x64 (extractStridedSlice S512x12x64x1 ![0, 0, 0, 18] v slices_S512x12x64x20_S512x12x64x1_0_0_0_18) shapeCasts_S512x12x64x1_S512x12x64)
        (broadcastInDim S512x12x64 ![] bcast_S_S512x12x64 (constant S_ .f32 0x37FBA882#32)))
      (shapeCast S512x12x64 (extractStridedSlice S512x12x64x1 ![0, 0, 0, 19] v slices_S512x12x64x20_S512x12x64x1_0_0_0_19) shapeCasts_S512x12x64x1_S512x12x64))

theorem falling_at (v : FVec Ideal S512x12x64x20 .f32) (w : Fin 512) (h : Fin 12) (n : Fin 64) (k : Fin 18) :
    falling v (ix4 w h n k)
      = Ideal.cmp .ogt (v (ix4 w h n ⟨k.val, by omega⟩)) (v (ix4 w h n ⟨1 + k.val, by omega⟩)) := by
  unfold falling
  pointwise

theorem verdict_at (v : FVec Ideal S512x12x64x20 .f32) (all : IVec S512x12x64 1) (w : Fin 512) (h : Fin 12)
    (n : Fin 64) :
    verdict v all (ix3 w h n)
      = IntOp.andi (IntOp.andi (Ideal.cmp .olt (v (ix4 w h n 0)) (Ideal.ofBits .f32 0x7F800000#32)) (all (ix3 w h n)))
          (Ideal.cmp .ogt (v (ix4 w h n 18) - Ideal.ofBits .f32 0x37FBA882#32) (v (ix4 w h n 19))) := by
  unfold verdict
  pointwise

/-- The twenty greatest scores of each row. -/
def tops (V0 : Valuation Cert.ReferenceIdeal.τ Cert.ReferenceIdeal.sig (Elt Ideal)) : FVec Ideal S512x12x64x20 .f32 :=
  (Host.topK S512x12x64x20 3 (FloatOps.cmpfTotal (F := Ideal) (φ := .f32) .gt) (Cert.ReferenceIdeal.Value.res_main_v64 V0) sliceFits_S512x12x64x64_S512x12x64x20).1

/-- The precondition is the verdict on the reference's own scores. -/
theorem fn_eq (V0 : Valuation Cert.ReferenceIdeal.τ Cert.ReferenceIdeal.sig (Elt Ideal)) :
    fn (F := Ideal) (V0 (Proc.devRef .tc Cert.ReferenceIdeal.main_arg0)) (V0 (Proc.devRef .tc Cert.ReferenceIdeal.main_arg1))
        (V0 (Proc.devRef .tc Cert.ReferenceIdeal.main_arg2)) (V0 (Proc.devRef .tc Cert.ReferenceIdeal.main_arg3))
        (V0 (Proc.devRef .tc Cert.ReferenceIdeal.main_arg4)) (V0 (Proc.devRef .tc Cert.ReferenceIdeal.main_arg5))
        (V0 (Proc.devRef .tc Cert.ReferenceIdeal.main_arg6)) (V0 (Proc.devRef .tc Cert.ReferenceIdeal.main_arg7))
        (V0 (Proc.devRef .tc Cert.ReferenceIdeal.main_arg8))
      = verdict (tops V0) (allFalling (tops V0)) := by
  sl_kernel_rfl

/-- A conjunction of two bits holds when both do. -/
theorem andi_one {a b : BitVec 1} (h : IntOp.andi a b = 1#1) : a = 1#1 ∧ b = 1#1 := by
  revert a b
  decide

/-- A conjunction over a finite set holds when every member does. -/
theorem fold_andi_one {K : ℕ} (g : Fin K → BitVec 1) (b : BitVec 1) (S : Finset (Fin K))
    (h : S.fold IntOp.andi b g = 1#1) : ∀ k ∈ S, g k = 1#1 := by
  induction S using Finset.induction_on with
  | empty => intro k hk; simp at hk
  | insert a S ha ih =>
    rw [Finset.fold_insert ha] at h
    obtain ⟨h1, h2⟩ := andi_one h
    intro k hk
    rcases Finset.mem_insert.mp hk with rfl | hk
    · exact h1
    · exact ih h2 k hk

theorem olt_one {a b : EReal} (h : Ideal.cmp .olt a b = 1#1) : a < b := by
  by_contra hn
  simp [Ideal.cmp, hn] at h

theorem ogt_one {a b : EReal} (h : Ideal.cmp .ogt a b = 1#1) : b < a := by
  by_contra hn
  simp [Ideal.cmp, hn] at h

theorem allFalling_at (v : FVec Ideal S512x12x64x20 .f32) (w : Fin 512) (h : Fin 12) (n : Fin 64) :
    allFalling v (ix3 w h n) = Finset.univ.fold IntOp.andi (1#1) fun k : Fin 18 => falling v (ix4 w h n k) := by
  exact reduce_last IntOp.andi (falling v) (constantI S_ 1 1#1) reducesTo_S512x12x64x18_S512x12x64_d3 (by decide) h_S_ w h n

/-- An entry of the twenty greatest is the score of its rank. -/
theorem tops_at (V0 : Valuation Cert.ReferenceIdeal.τ Cert.ReferenceIdeal.sig (Elt Ideal)) (w : Fin 512) (h : Fin 12)
    (n : Fin 64) (k : Fin 20) :
    tops V0 (ix4 w h n k)
      = Cert.ReferenceIdeal.Value.score V0 w h n (rank (Cert.ReferenceIdeal.Value.score V0 w h n) ⟨k.val, by omega⟩) :=
  topK_value (by decide) (Cert.ReferenceIdeal.Value.res_main_v64 V0) sliceFits_S512x12x64x64_S512x12x64x20 w h n k

/-- Under the precondition the scores of every row are separated. -/
theorem separated_row (V0 : Valuation Cert.ReferenceIdeal.τ Cert.ReferenceIdeal.sig (Elt Ideal)) (δ : ℝ)
    (hδ : Ideal.ofBits .f32 0x37FBA882#32 = (δ : EReal))
    (hv : verdict (tops V0) (allFalling (tops V0)) = fun _ => 1#1) (w : Fin 512) (h : Fin 12) (n : Fin 64) :
    Separated (Cert.ReferenceIdeal.Value.score V0 w h n) (rank (Cert.ReferenceIdeal.Value.score V0 w h n)) δ := by
  have hv := congrFun hv (ix3 w h n)
  rw [verdict_at, allFalling_at] at hv
  obtain ⟨h12, h3⟩ := andi_one hv
  obtain ⟨h1, h2⟩ := andi_one h12
  have h1 := olt_one h1
  have h3 := ogt_one h3
  rw [tops_at, bits_inf] at h1
  rw [tops_at, tops_at, hδ] at h3
  refine ⟨h1, fun i => ?_, h3⟩
  have hi := fold_andi_one _ _ _ h2 i (Finset.mem_univ i)
  rw [falling_at, tops_at, tops_at] at hi
  have hi := ogt_one hi
  have e : (⟨i.val + 1, by omega⟩ : Fin 64) = ⟨1 + i.val, by omega⟩ := Fin.ext (Nat.add_comm _ _)
  rw [e]
  exact hi

end Cert.Pre_separated
-- ==== Proof.Equal.lean ====
/-
  Under the precondition the kernel's array is the reference's.
-/
module

public import proofs.«01_k».proof.Proof.KArr
public import proofs.«01_k».proof.Proof.PRead

@[expose] public section

noncomputable section

namespace Cert.ReferenceIdeal.Value

open Idealize.ShloMosaic Idealize.ShloMosaic.StableHlo Cert.Attention Cert.ReferenceIdeal
open Cert.KernelIdeal.Gen (kernelOut kernelAttn)

variable (V0 : Valuation τ sig (Elt Ideal))

/-- One number of the attention: the kernel's is the reference's, when every row's scores are separated. -/
theorem attn_eq
    (hs : ∀ δ : ℝ, Ideal.ofBits .f32 0x37FBA882#32 = (δ : EReal) →
      ∀ w h n, Separated (score V0 w h n) (rank (score V0 w h n)) δ)
    (w : Fin 512) (n : Fin 64) (e : Fin 768) :
    kernelAttn (feat V0 w) (fun d => V0 (Proc.devRef .tc main_arg3) (ix1 d))
        (fun d => V0 (Proc.devRef .tc main_arg4) (ix1 d)) (fun d => V0 (Proc.devRef .tc main_arg5) (ix1 d))
        (fun d => V0 (Proc.devRef .tc main_arg6) (ix1 d)) n e
      = refAttn V0 w n e := by
  obtain ⟨δ, hδ0, hδ⟩ := bits_slack
  unfold kernelAttn refAttn
  rw [bits_eighth, hδ]
  exact kernelRow_eq (by norm_num) hδ0 (fun j => (v64_at V0 w _ n j).trans (by rw [bits_eighth])) (ranked _)
    (hs δ hδ w _ n) _ _ (kept_rank _)

/-- The arrays are equal. -/
theorem kernel_eq_result
    (hp : Cert.Pre_separated.fn (F := Ideal) (V0 (Proc.devRef .tc main_arg0)) (V0 (Proc.devRef .tc main_arg1))
        (V0 (Proc.devRef .tc main_arg2)) (V0 (Proc.devRef .tc main_arg3)) (V0 (Proc.devRef .tc main_arg4))
        (V0 (Proc.devRef .tc main_arg5)) (V0 (Proc.devRef .tc main_arg6)) (V0 (Proc.devRef .tc main_arg7))
        (V0 (Proc.devRef .tc main_arg8)) = fun _ => 1#1) :
    kernelOut (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8))
      = result V0 := by
  funext i
  have hr := (congrArg (result V0) (eq_ix3 (n0 := 512) (n1 := 64) (n2 := 768) i)).trans (result_at V0 (i 0) (i 1) (i 2))
  refine Eq.trans ?_ hr.symm
  refine congrArg₂ (· + ·) (Finset.sum_congr rfl fun e _ => congrArg (· * _) ?_) rfl
  exact attn_eq V0 (fun δ hδ => Cert.Pre_separated.separated_row V0 δ hδ ((Cert.Pre_separated.fn_eq V0).symm.trans hp))
    (i 0) (i 1) e

/-- … with the arguments named. -/
theorem result_eq (a0 : FVec Ideal S512x64x768 .f32) (a1 : FVec Ideal S2304x768 .f32) (a2 : FVec Ideal S2304 .f32) (a3
    : FVec Ideal S64 .f32) (a4 : FVec Ideal S64 .f32) (a5 : FVec Ideal S64 .f32) (a6 : FVec Ideal S64
    .f32) (a7 : FVec Ideal S768x768 .f32) (a8 : FVec Ideal S768 .f32)
    (h0 : V0 (Proc.devRef .tc main_arg0) = a0) (h1 : V0 (Proc.devRef .tc main_arg1) = a1)
    (h2 : V0 (Proc.devRef .tc main_arg2) = a2) (h3 : V0 (Proc.devRef .tc main_arg3) = a3)
    (h4 : V0 (Proc.devRef .tc main_arg4) = a4) (h5 : V0 (Proc.devRef .tc main_arg5) = a5)
    (h6 : V0 (Proc.devRef .tc main_arg6) = a6) (h7 : V0 (Proc.devRef .tc main_arg7) = a7)
    (h8 : V0 (Proc.devRef .tc main_arg8) = a8)
    (hp : Cert.Pre_separated.fn (F := Ideal) a0 a1 a2 a3 a4 a5 a6 a7 a8 = fun _ => 1#1) :
    result V0 = kernelOut a0 a1 a2 a3 a4 a5 a6 a7 a8 := by
  subst h0 h1 h2 h3 h4 h5 h6 h7 h8
  exact (kernel_eq_result V0 hp).symm

end Cert.ReferenceIdeal.Value
-- ==== Proof.lean ====
/-
  The proof of the certificate's claim: the frames of the kernel, of its ideal form and of the reference, that the ideal
  form is the printed kernel, and that from equal arguments under the precondition `separated` the kernel and the
  reference end with the same array. The kernel's array is read in `Proof/KArr`, the reference's in `Proof/RRead`, the
  precondition in `Proof/PRead`, and `Proof/Equal` sets them equal by the identity of `Proof/TopMath`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference's run leaves the arguments as they were, and it has no semaphore that could be nonzero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference's run, its result named. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v105) = Cert.ReferenceIdeal.Value.result (StableHlo.launchContents m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8) :=
  Cert.ReferenceIdeal.Value.run (F := Ideal) m ρ

/-- From memories that agree on the arguments, the two programs end with equal results. -/
theorem same_result :
    Cert.algebraic_KernelIdeal_ReferenceIdeal_pre_separated (hPre_separated := Cert.Pre_separated.facts) :=
  fun m g m' g' hp hm =>
  ⟨fun c => (Cert.KernelIdeal.Gen.dats m 0 c).arrAt 9 Cert.KernelIdeal.cfg0.N,
    Cert.KernelIdeal.Value.run_blocks (F := Ideal) m g,
    (θ_run Cert.ReferenceIdeal.defs _ _).mono (fun _ h c => ⟨(h c).1.trans
        ((Cert.ReferenceIdeal.Value.result_eq _ _ _ _ _ _ _ _ _ _ (hm c).1 (hm c).2.1 (hm c).2.2.1 (hm c).2.2.2.1
          (hm c).2.2.2.2.1 (hm c).2.2.2.2.2.1 (hm c).2.2.2.2.2.2.1 (hm c).2.2.2.2.2.2.2.1 (hm c).2.2.2.2.2.2.2.2
          (hp c)).trans (Cert.KernelIdeal.Gen.arr_eq m c).symm), (h c).2⟩)
      (run_reference m' g')⟩

theorem claim : Cert.Claim :=
  ⟨Cert.Kernel.Gen.facts, Cert.KernelIdeal.Gen.facts, Cert.ReferenceIdeal.Gen.facts, Cert.Pre_separated.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    same_result⟩

end Cert.Proof

end
